-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "scale_log2e" .f32 0x3E38AA3B#32 (((Real.log 2)⁻¹ * (1 / 8) : ℝ) : EReal)
  ∧ IdealRules.named_const.Statement Cert.KernelIdeal.κ "mask" .f32 0xF149F2CA#32 ⊥
  ∧ IdealRules.named_const.Statement Cert.KernelIdeal.κ "inv_sqrt2" .f32 0x3F3504F3#32 (((Real.sqrt 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S2x2048x1024 : Shape := ⟨3, ![2, 2048, 1024]⟩
abbrev S1024 : Shape := ⟨1, ![1024]⟩
abbrev S1024x1024 : Shape := ⟨2, ![1024, 1024]⟩
abbrev S2048x1024 : Shape := ⟨2, ![2048, 1024]⟩
abbrev S2048 : Shape := ⟨1, ![2048]⟩
abbrev S1024x2048 : Shape := ⟨2, ![1024, 2048]⟩
abbrev S_ : Shape := ⟨0, ![]⟩

class Facts : Prop where
  bcast_S_S2x2048x1024 : S_.BroadcastsInDim S2x2048x1024 (![] : Fin 0 → Fin S2x2048x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn_part1 {F : FTy → Type} [FloatOps F] (main_arg3 : FVec F S1024x1024 .f32) (main_arg4 : FVec F S1024x1024 .f32) (main_v4 : IVec S2x2048x1024 1) (main_v9 : IVec S1024 1) (main_v14 : IVec S1024 1) (main_v16 : IVec S1024x1024 1) : IVec S2x2048x1024 1 × IVec S1024 1 × IVec S1024 1 × IVec S1024x1024 1 × IVec S1024x1024 1 :=
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_arg3 main_v17
  let main_v19 : IVec S1024x1024 1 := andi main_v16 main_v18
  let main_cst_7 : FVec F S_ .f32 := constant S_ .f32 0xFF800000#32
  let main_v20 : FVec F S1024x1024 .f32 := broadcastInDim S1024x1024 ![] bcast_S_S1024x1024 main_cst_7
  let main_v21 : IVec S1024x1024 1 := cmpf .ogt main_arg4 main_v20
  let main_cst_8 : FVec F S_ .f32 := constant S_ .f32 0x7F800000#32
  let main_v22 : FVec F S1024x1024 .f32 := broadcastInDim S1024x1024 ![] bcast_S_S1024x1024 main_cst_8
  let main_v23 : IVec S1024x1024 1 := cmpf .olt main_arg4 main_v22
  let main_v24 : IVec S1024x1024 1 := andi main_v21 main_v23
  (main_v4, main_v9, main_v14, main_v19, main_v24)

def fn {F : FTy → Type} [FloatOps F] (main_arg0 : FVec F S2x2048x1024 .f32) (main_arg1 : FVec F S1024 .f32) (main_arg2 : FVec F S1024 .f32) (main_arg3 : FVec F S1024x1024 .f32) (main_arg4 : FVec F S1024x1024 .f32) (main_arg5 : FVec F S1024x1024 .f32) (main_arg6 : FVec F S1024x1024 .f32) (main_arg7 : FVec F S2048x1024 .f32) (main_arg8 : FVec F S2048 .f32) (main_arg9 : FVec F S1024x2048 .f32) (main_arg10 : FVec F S1024 .f32) : IVec S2x2048x1024 1 × IVec S1024 1 × IVec S1024 1 × IVec S1024x1024 1 × IVec S1024x1024 1 :=
  let main_cst : FVec F S_ .f32 := constant S_ .f32 0xFF800000#32
  let main_v0 : FVec F S2x2048x1024 .f32 := broadcastInDim S2x2048x1024 ![] bcast_S_S2x2048x1024 main_cst
  let main_v1 : IVec S2x2048x1024 1 := cmpf .ogt main_arg0 main_v0
  let main_cst_0 : FVec F S_ .f32 := constant S_ .f32 0x7F800000#32
  let main_v2 : FVec F S2x2048x1024 .f32 := broadcastInDim S2x2048x1024 ![] bcast_S_S2x2048x1024 main_cst_0
  let main_v3 : IVec S2x2048x1024 1 := cmpf .olt main_arg0 main_v2
  let main_v4 : IVec S2x2048x1024 1 := andi main_v1 main_v3
  let main_cst_1 : FVec F S_ .f32 := constant S_ .f32 0xFF800000#32
  let main_v5 : FVec F S1024 .f32 := broadcastInDim S1024 ![] bcast_S_S1024 main_cst_1
  let main_v6 : IVec S1024 1 := cmpf .ogt main_arg1 main_v5
  let main_cst_2 : FVec F S_ .f32 := constant S_ .f32 0x7F800000#32
  let main_v7 : FVec F S1024 .f32 := broadcastInDim S1024 ![] bcast_S_S1024 main_cst_2
  let main_v8 : IVec S1024 1 := cmpf .olt main_arg1 main_v7
  let main_v9 : IVec S1024 1 := andi main_v6 main_v8
  let main_cst_3 : FVec F S_ .f32 := constant S_ .f32 0xFF800000#32
  let main_v10 : FVec F S1024 .f32 := broadcastInDim S1024 ![] bcast_S_S1024 main_cst_3
  let main_v11 : IVec S1024 1 := cmpf .ogt main_arg2 main_v10
  let main_cst_4 : FVec F S_ .f32 := constant S_ .f32 0x7F800000#32
  let main_v12 : FVec F S1024 .f32 := broadcastInDim S1024 ![] bcast_S_S1024 main_cst_4
  let main_v13 : IVec S1024 1 := cmpf .olt main_arg2 main_v12
  let main_v14 : IVec S1024 1 := andi main_v11 main_v13
  let main_cst_5 : FVec F S_ .f32 := constant S_ .f32 0xFF800000#32
  let main_v15 : FVec F S1024x1024 .f32 := broadcastInDim S1024x1024 ![] bcast_S_S1024x1024 main_cst_5
  let main_v16 : IVec S1024x1024 1 := cmpf .ogt main_arg3 main_v15
  fn_part1 (F := F) main_arg3 main_arg4 main_v4 main_v9 main_v14 main_v16
-- ==== Kernel.lean ====
abbrev S2x2048x1024 : Shape := ⟨3, ![2, 2048, 1024]⟩
abbrev S1024 : Shape := ⟨1, ![1024]⟩
abbrev S1024x1024 : Shape := ⟨2, ![1024, 1024]⟩
abbrev S2048x1024 : Shape := ⟨2, ![2048, 1024]⟩
abbrev S2048 : Shape := ⟨1, ![2048]⟩
abbrev S1024x2048 : Shape := ⟨2, ![1024, 2048]⟩
abbrev S1x1024 : Shape := ⟨2, ![1, 1024]⟩
abbrev S1x2048 : Shape := ⟨2, ![1, 2048]⟩
abbrev S1x512x1024 : Shape := ⟨3, ![1, 512, 1024]⟩
abbrev S1x256x1024 : Shape := ⟨3, ![1, 256, 1024]⟩
abbrev S512x1024 : Shape := ⟨2, ![512, 1024]⟩
abbrev S256x1024 : Shape := ⟨2, ![256, 1024]⟩
abbrev S768x1024 : Shape := ⟨2, ![768, 1024]⟩
abbrev S768 : Shape := ⟨1, ![768]⟩
abbrev S768x1 : Shape := ⟨2, ![768, 1]⟩
abbrev S256x512 : Shape := ⟨2, ![256, 512]⟩
abbrev S256x64 : Shape := ⟨2, ![256, 64]⟩
abbrev S512x64 : Shape := ⟨2, ![512, 64]⟩
abbrev S256 : Shape := ⟨1, ![256]⟩
abbrev S256x1 : Shape := ⟨2, ![256, 1]⟩
abbrev S512 : Shape := ⟨1, ![512]⟩
abbrev S512x1 : Shape := ⟨2, ![512, 1]⟩
abbrev S512x2048 : Shape := ⟨2, ![512, 2048]⟩

abbrev nBuf : Space → Nat
  | .hbm => 20
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048, .f32⟩
  | .hbm, ⟨9, _⟩ => ⟨S1024x2048, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x2048, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x2048, .f32⟩
  | .hbm, ⟨18, _⟩ => ⟨S1x1024, .f32⟩
  | .hbm, ⟨19, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .f32⟩
  | .local _ .vmem, ⟨11, _⟩ => ⟨S1x2048, .f32⟩
  | .local _ .vmem, ⟨12, _⟩ => ⟨S1024x2048, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "inv_sqrt2" => some (((Real.sqrt 2)⁻¹ : ℝ) : EReal)
  | "mask" => some ⊥
  | "scale_log2e" => some (((Real.log 2)⁻¹ * (1 / 8) : ℝ) : EReal)
  | _ => none
-- ==== ReferenceIdeal.lean ====
abbrev S2x2048x1024 : Shape := ⟨3, ![2, 2048, 1024]⟩
abbrev S1024 : Shape := ⟨1, ![1024]⟩
abbrev S1024x1024 : Shape := ⟨2, ![1024, 1024]⟩
abbrev S2048x1024 : Shape := ⟨2, ![2048, 1024]⟩
abbrev S2048 : Shape := ⟨1, ![2048]⟩
abbrev S1024x2048 : Shape := ⟨2, ![1024, 2048]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S2x2048x2048 : Shape := ⟨3, ![2, 2048, 2048]⟩
abbrev S1x1x2048 : Shape := ⟨3, ![1, 1, 2048]⟩

abbrev nBuf : Space → Nat
  | .hbm => 171
  | .vmem => 0
  | .smem => 0
  | _ => 0

abbrev hbmTy0_0 (i : Nat) : BufTy := match i % 128 with
  | 0 => ⟨S2x2048x1024, .f32⟩
  | 1 => ⟨S1024, .f32⟩
  | 2 => ⟨S1024, .f32⟩
  | 3 => ⟨S1024x1024, .f32⟩
  | 4 => ⟨S1024x1024, .f32⟩
  | 5 => ⟨S1024x1024, .f32⟩
  | 6 => ⟨S1024x1024, .f32⟩
  | 7 => ⟨S2048x1024, .f32⟩
  | 8 => ⟨S2048, .f32⟩
  | 9 => ⟨S1024x2048, .f32⟩
  | 10 => ⟨S1024, .f32⟩
  | 11 => ⟨S_, .f32⟩
  | 12 => ⟨S2x2048, .f32⟩
  | 13 => ⟨S2x2048x1, .f32⟩
  | 14 => ⟨S_, .f32⟩
  | 15 => ⟨S2x2048x1, .f32⟩
  | 16 => ⟨S2x2048x1, .f32⟩
  | 17 => ⟨S_, .i32⟩
  | 18 => ⟨S_, .f32⟩
  | 19 => ⟨S2x2048, .f32⟩
  | 20 => ⟨S2x2048x1, .f32⟩
  | 21 => ⟨S_, .f32⟩
  | 22 => ⟨S2x2048x1, .f32⟩
  | 23 => ⟨S2x2048x1, .f32⟩
  | 24 => ⟨S2x2048x1024, .f32⟩
  | 25 => ⟨S2x2048x1024, .f32⟩
  | 26 => ⟨S2x2048x1024, .f32⟩
  | 27 => ⟨S_, .f32⟩
  | 28 => ⟨S_, .f32⟩
  | 29 => ⟨S_, .f32⟩
  | 30 => ⟨S_, .f32⟩
  | 31 => ⟨S2x2048, .f32⟩
  | 32 => ⟨S2x2048x1, .f32⟩
  | 33 => ⟨S2x2048x1, .f32⟩
  | 34 => ⟨S2x2048x1, .f32⟩
  | 35 => ⟨S_, .f32⟩
  | 36 => ⟨S_, .i1⟩
  | 37 => ⟨S_, .f32⟩
  | 38 => ⟨S_, .f32⟩
  | 39 => ⟨S2x2048x1, .f32⟩
  | 40 => ⟨S2x2048x1, .f32⟩
  | 41 => ⟨S2x2048x1024, .f32⟩
  | 42 => ⟨S2x2048x1024, .f32⟩
  | 43 => ⟨S_, .f32⟩
  | 44 => ⟨S2x2048x1, .f32⟩
  | 45 => ⟨S2x2048x1, .f32⟩
  | 46 => ⟨S2x2048x1, .f32⟩
  | 47 => ⟨S2x2048x1024, .f32⟩
  | 48 => ⟨S2x2048x1024, .f32⟩
  | 49 => ⟨S1x1x1024, .f32⟩
  | 50 => ⟨S2x2048x1024, .f32⟩
  | 51 => ⟨S2x2048x1024, .f32⟩
  | 52 => ⟨S1x1x1024, .f32⟩
  | 53 => ⟨S2x2048x1024, .f32⟩
  | 54 => ⟨S2x2048x1024, .f32⟩
  | 55 => ⟨S1024x1024, .f32⟩
  | 56 => ⟨S2x2048x1024, .f32⟩
  | 57 => ⟨S2x2048x16x64, .f32⟩
  | 58 => ⟨S2x16x2048x64, .f32⟩
  | 59 => ⟨S1024x1024, .f32⟩
  | 60 => ⟨S2x2048x1024, .f32⟩
  | 61 => ⟨S2x2048x16x64, .f32⟩
  | 62 => ⟨S2x16x2048x64, .f32⟩
  | 63 => ⟨S1024x1024, .f32⟩
  | 64 => ⟨S2x2048x1024, .f32⟩
  | 65 => ⟨S2x2048x16x64, .f32⟩
  | 66 => ⟨S2x16x2048x64, .f32⟩
  | 67 => ⟨S2x16x2048x2048, .f32⟩
  | 68 => ⟨S_, .f32⟩
  | 69 => ⟨S2x16x2048x2048, .f32⟩
  | 70 => ⟨S2x16x2048x2048, .f32⟩
  | 71 => ⟨S2048x2048, .i32⟩
  | 72 => ⟨S2048x2048, .i32⟩
  | 73 => ⟨S2048x2048, .i1⟩
  | 74 => ⟨S2048x2048, .i32⟩
  | 75 => ⟨S_, .i32⟩
  | 76 => ⟨S2048x2048, .i32⟩
  | 77 => ⟨S2048x2048, .i1⟩
  | 78 => ⟨S2048x2048, .i1⟩
  | 79 => ⟨S1x1x2048x2048, .i1⟩
  | 80 => ⟨S_, .f32⟩
  | 81 => ⟨S_, .f32⟩
  | 82 => ⟨S2x16x2048x2048, .i1⟩
  | 83 => ⟨S2x16x2048x2048, .f32⟩
  | 84 => ⟨S2x16x2048x2048, .f32⟩
  | 85 => ⟨S_, .f32⟩
  | 86 => ⟨S2x16x2048, .f32⟩
  | 87 => ⟨S_, .f32⟩
  | 88 => ⟨S2x16x2048, .f32⟩
  | 89 => ⟨S2x16x2048, .f32⟩
  | 90 => ⟨S2x16x2048x1, .f32⟩
  | 91 => ⟨S2x16x2048x2048, .f32⟩
  | 92 => ⟨S2x16x2048x2048, .f32⟩
  | 93 => ⟨S2x16x2048x2048, .f32⟩
  | 94 => ⟨S_, .f32⟩
  | 95 => ⟨S2x16x2048, .f32⟩
  | 96 => ⟨S2x16x2048x1, .f32⟩
  | 97 => ⟨S2x16x2048x2048, .f32⟩
  | 98 => ⟨S2x16x2048x2048, .f32⟩
  | 99 => ⟨S2x16x2048x64, .f32⟩
  | 100 => ⟨S2x2048x16x64, .f32⟩
  | 101 => ⟨S2x2048x1024, .f32⟩
  | 102 => ⟨S1024x1024, .f32⟩
  | 103 => ⟨S2x2048x1024, .f32⟩
  | 104 => ⟨S2x2048x1024, .f32⟩
  | 105 => ⟨S_, .f32⟩
  | 106 => ⟨S2x2048, .f32⟩
  | 107 => ⟨S2x2048x1, .f32⟩
  | 108 => ⟨S_, .f32⟩
  | 109 => ⟨S2x2048x1, .f32⟩
  | 110 => ⟨S2x2048x1, .f32⟩
  | 111 => ⟨S_, .i32⟩
  | 112 => ⟨S_, .f32⟩
  | 113 => ⟨S2x2048, .f32⟩
  | 114 => ⟨S2x2048x1, .f32⟩
  | 115 => ⟨S_, .f32⟩
  | 116 => ⟨S2x2048x1, .f32⟩
  | 117 => ⟨S2x2048x1, .f32⟩
  | 118 => ⟨S2x2048x1024, .f32⟩
  | 119 => ⟨S2x2048x1024, .f32⟩
  | 120 => ⟨S2x2048x1024, .f32⟩
  | 121 => ⟨S_, .f32⟩
  | 122 => ⟨S_, .f32⟩
  | 123 => ⟨S_, .f32⟩
  | 124 => ⟨S_, .f32⟩
  | 125 => ⟨S2x2048, .f32⟩
  | 126 => ⟨S2x2048x1, .f32⟩
  | 127 => ⟨S2x2048x1, .f32⟩
  | _ => ⟨S2x2048x1024, .f32⟩

abbrev hbmTy0_1 (i : Nat) : BufTy := match i % 128 with
  | 0 => ⟨S2x2048x1, .f32⟩
  | 1 => ⟨S_, .f32⟩
  | 2 => ⟨S_, .i1⟩
  | 3 => ⟨S_, .f32⟩
  | 4 => ⟨S_, .f32⟩
  | 5 => ⟨S2x2048x1, .f32⟩
  | 6 => ⟨S2x2048x1, .f32⟩
  | 7 => ⟨S2x2048x1024, .f32⟩
  | 8 => ⟨S2x2048x1024, .f32⟩
  | 9 => ⟨S_, .f32⟩
  | 10 => ⟨S2x2048x1, .f32⟩
  | 11 => ⟨S2x2048x1, .f32⟩
  | 12 => ⟨S2x2048x1, .f32⟩
  | 13 => ⟨S2x2048x1024, .f32⟩
  | 14 => ⟨S2x2048x1024, .f32⟩
  | 15 => ⟨S1x1x1024, .f32⟩
  | 16 => ⟨S2x2048x1024, .f32⟩
  | 17 => ⟨S2x2048x1024, .f32⟩
  | 18 => ⟨S1x1x1024, .f32⟩
  | 19 => ⟨S2x2048x1024, .f32⟩
  | 20 => ⟨S2x2048x1024, .f32⟩
  | 21 => ⟨S1024x2048, .f32⟩
  | 22 => ⟨S2x2048x2048, .f32⟩
  | 23 => ⟨S1x1x2048, .f32⟩
  | 24 => ⟨S2x2048x2048, .f32⟩
  | 25 => ⟨S2x2048x2048, .f32⟩
  | 26 => ⟨S_, .f32⟩
  | 27 => ⟨S2x2048x2048, .f32⟩
  | 28 => ⟨S2x2048x2048, .f32⟩
  | 29 => ⟨S2x2048x2048, .f32⟩
  | 30 => ⟨S_, .f32⟩
  | 31 => ⟨S_, .f32⟩
  | 32 => ⟨S_, .f32⟩
  | 33 => ⟨S2x2048x2048, .f32⟩
  | 34 => ⟨S2x2048x2048, .f32⟩
  | 35 => ⟨S2x2048x2048, .f32⟩
  | 36 => ⟨S2x2048x2048, .f32⟩
  | 37 => ⟨S2048x1024, .f32⟩
  | 38 => ⟨S2x2048x1024, .f32⟩
  | 39 => ⟨S1x1x1024, .f32⟩
  | 40 => ⟨S2x2048x1024, .f32⟩
  | 41 => ⟨S2x2048x1024, .f32⟩
  | 42 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst_1 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_2 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_c_3 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_4 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v41 : Ref sig .tc := ⟨.hbm, 84, rfl⟩
abbrev main_cst_5 : Ref sig .tc := ⟨.hbm, 85, rfl⟩
abbrev main_v42 : Ref sig .tc := ⟨.hbm, 86, rfl⟩
abbrev main_cst_6 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_7 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_8 : Ref sig .tc := ⟨.hbm, 105, rfl⟩
abbrev main_v59 : Ref sig .tc := ⟨.hbm, 106, rfl⟩
abbrev main_v60 : Ref sig .tc := ⟨.hbm, 107, rfl⟩
abbrev main_cst_9 : Ref sig .tc := ⟨.hbm, 108, rfl⟩
abbrev main_v61 : Ref sig .tc := ⟨.hbm, 109, rfl⟩
abbrev main_v62 : Ref sig .tc := ⟨.hbm, 110, rfl⟩
abbrev main_c_10 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_cst_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_cst_1 : Ref sig .tc := ⟨.hbm, 122, rfl⟩
abbrev main_call2_v8 : Ref sig .tc := ⟨.hbm, 123, rfl⟩
abbrev main_call2_cst_2 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_v12 : Ref sig .tc := ⟨.hbm, 128, rfl⟩
abbrev main_call2_cst_3 : Ref sig .tc := ⟨.hbm, 129, rfl⟩
abbrev main_call2_v13 : Ref sig .tc := ⟨.hbm, 130, rfl⟩
abbrev main_call2_cst_4 : Ref sig .tc := ⟨.hbm, 131, rfl⟩
abbrev main_call2_call0_v0 : Ref sig .tc := ⟨.hbm, 132, rfl⟩
abbrev main_call2_call0_v1 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_cst_11 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_cst_12 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_cst_13 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩

abbrev nD : Nat := 1
abbrev τ : Topo := Topo.v7x

variable {F : FTy → Type} [FloatOps F]
-- ==== Proof.Spec.lean ====
/- The mathematics of the layer, over the extended reals with plain indices: layer normalization, projections,
   banded softmax attention with 16 heads of width 64, two residual additions, and the exact-gelu perceptron.
   Nothing here mentions a program. -/
module

public import Idealize.ShloMosaic.PureOps
public import Idealize.ShloMosaic.Lib.IdealHost

@[expose] public section

noncomputable section

open scoped BigOperators

namespace Cert.Layer

open Idealize.ShloMosaic

/-- The length of a row, as an extended real. -/
def width : EReal := ((1024 : ℝ) : EReal)

/-- The small number added to a variance (the `f32` nearest to 1e-5). -/
def eps : EReal := Ideal.ofBits .f32 0x3727C5AC#32

/-- The one half of the gelu. -/
def half : EReal := Ideal.ofBits .f32 0x3F000000#32

/-- The square root of two, in the gelu. -/
def rootTwo : EReal := Ideal.sqrt (Ideal.ofBits .f32 0x40000000#32)

/-- The mean of a row. -/
def mean (x : Fin 1024 → EReal) : EReal := Ideal.div (∑ k, x k) width

/-- The variance of a row. -/
def variance (x : Fin 1024 → EReal) : EReal := Ideal.div (∑ k, (x k - mean x) * (x k - mean x)) width

/-- A row normalized, scaled by `g` and shifted by `b`. -/
def norm (g b x : Fin 1024 → EReal) (k : Fin 1024) : EReal :=
  Ideal.div (x k - mean x) (Ideal.sqrt (variance x + eps)) * g k + b k

/-- A row times the transpose of a matrix. -/
def proj {m n : ℕ} (W : Fin n → Fin m → EReal) (x : Fin m → EReal) (e : Fin n) : EReal := ∑ k, x k * W e k

/-- Column `d` of head `h`. -/
def hcol (h : Fin 16) (d : Fin 64) : Fin 1024 := ⟨64 * h.val + d.val, by have := h.isLt; have := d.isLt; omega⟩

/-- The head a column belongs to. -/
def headOf (e : Fin 1024) : Fin 16 := ⟨e.val / 64, by have := e.isLt; omega⟩

/-- The place of a column in its head. -/
def laneOf (e : Fin 1024) : Fin 64 := ⟨e.val % 64, Nat.mod_lt _ (by decide)⟩

/-- The score of query row `t` against key row `p` in head `h`. -/
def score (Q K : Fin 2048 → Fin 1024 → EReal) (h : Fin 16) (t p : Fin 2048) : EReal :=
  (∑ d, Q t (hcol h d) * K p (hcol h d)) * (((1 / 8 : ℝ)) : EReal)

/-- Key row `p` is one of the 256 rows ending at `t`. -/
def InBand (t p : Fin 2048) : Prop := p.val ≤ t.val ∧ t.val < p.val + 256

instance (t p : Fin 2048) : Decidable (InBand t p) := inferInstanceAs (Decidable (_ ∧ _))

/-- The scores of row `t`, those outside its band at minus infinity. -/
def banded (Q K : Fin 2048 → Fin 1024 → EReal) (h : Fin 16) (t p : Fin 2048) : EReal :=
  if InBand t p then score Q K h t p else ⊥

/-- The largest of finitely many extended reals. -/
def top {ι : Type} [Fintype ι] (a : ι → EReal) : EReal := Finset.univ.fold max ⊥ a

/-- The softmax of a row of scores. -/
def softmax {ι : Type} [Fintype ι] (a : ι → EReal) (p : ι) : EReal :=
  Ideal.div (Ideal.exp (a p - top a)) (∑ s, Ideal.exp (a s - top a))

/-- Attention: column `e` of row `t`. -/
def attend (Q K V : Fin 2048 → Fin 1024 → EReal) (t : Fin 2048) (e : Fin 1024) : EReal :=
  ∑ p, softmax (banded Q K (headOf e) t) p * V p e

/-- Gelu, written with the complementary error function. -/
def gelu (x : EReal) : EReal := half * x * Ideal.erfc (Ideal.div (-x) rootTwo)

/-- The attention half of the layer: row `t` after the first residual addition. -/
def mid (g b : Fin 1024 → EReal) (Wq Wk Wv Wo : Fin 1024 → Fin 1024 → EReal) (q : Fin 2048 → Fin 1024 → EReal)
    (t : Fin 2048) (j : Fin 1024) : EReal :=
  proj Wo (attend (fun s => proj Wq (norm g b (q s))) (fun s => proj Wk (norm g b (q s)))
    (fun s => proj Wv (norm g b (q s))) t) j + q t j

/-- The perceptron half of the layer on one row `y`, with its residual addition. -/
def mlp (g b : Fin 1024 → EReal) (W1 : Fin 2048 → Fin 1024 → EReal) (b1 : Fin 2048 → EReal)
    (W2 : Fin 1024 → Fin 2048 → EReal) (b2 : Fin 1024 → EReal) (y : Fin 1024 → EReal) (j : Fin 1024) : EReal :=
  proj W2 (fun f => gelu (proj W1 (norm g b y) f + b1 f)) j + b2 j + y j

/-! ## Literals -/

/-- The pattern of 1024. -/
theorem ofBits_width : Ideal.ofBits .f32 0x44800000#32 = width := by
  unfold width; simp [Ideal.ofBits, Ideal.ieee, -EReal.coe_mul]; norm_num

/-- The pattern of one eighth. -/
theorem ofBits_eighth : Ideal.ofBits .f32 0x3E000000#32 = (((1 / 8 : ℝ)) : EReal) := by
  simp [Ideal.ofBits, Ideal.ieee, -EReal.coe_mul]; norm_num

/-- The pattern of one. -/
theorem ofBits_one : Ideal.ofBits .f32 0x3F800000#32 = 1 := by
  rw [← EReal.coe_one]
  simp [Ideal.ofBits, Ideal.ieee, -EReal.coe_mul, -EReal.coe_one]; norm_num

/-- The pattern of zero. -/
theorem ofBits_zero : Ideal.ofBits .f32 0x00000000#32 = 0 := by simp [Ideal.ofBits, Ideal.ieee]

/-- The pattern of minus infinity. -/
theorem ofBits_bot : Ideal.ofBits .f32 0xFF800000#32 = ⊥ := by simp [Ideal.ofBits, Ideal.ieee]

/-- The pattern of plus infinity. -/
theorem ofBits_top : Ideal.ofBits .f32 0x7F800000#32 = ⊤ := by simp [Ideal.ofBits, Ideal.ieee]

/-- The number added to a variance is a positive real. -/
theorem eps_real : ∃ r : ℝ, 0 < r ∧ eps = (r : EReal) := by
  unfold eps
  refine ⟨(10995116 : ℝ) * 2 ^ (-40 : ℤ), by positivity, ?_⟩
  simp [Ideal.ofBits, Ideal.ieee, -EReal.coe_mul]

/-! ## The two ways of normalizing a row agree -/

/-- A square is not negative. -/
theorem square_nonneg (x : EReal) : 0 ≤ x * x := by
  induction x with
  | bot => simp
  | top => simp
  | coe r => rw [← EReal.coe_mul]; exact_mod_cast mul_self_nonneg r

/-- A number that is not negative, divided by the row length, is not negative. -/
theorem div_width_nonneg {x : EReal} (hx : 0 ≤ x) : 0 ≤ Ideal.div x width := by
  have h : width ≠ 0 := by unfold width; exact_mod_cast (by norm_num : (1024 : ℝ) ≠ 0)
  unfold Ideal.div; rw [if_neg h]
  have hi : (0 : EReal) ≤ width⁻¹ := EReal.inv_nonneg_of_nonneg (by unfold width; exact_mod_cast (by norm_num : (0 : ℝ) ≤ 1024))
  exact mul_nonneg hx hi

/-- A variance is not negative. -/
theorem variance_nonneg (x : Fin 1024 → EReal) : 0 ≤ variance x :=
  div_width_nonneg (Finset.sum_nonneg fun _ _ => square_nonneg _)

/-- For a positive number, multiplying by the reciprocal square root is dividing by the square root. -/
theorem mul_rsqrt (y : EReal) {s : EReal} (hs : 0 < s) : y * Ideal.rsqrt s = Ideal.div y (Ideal.sqrt s) := by
  induction s with
  | bot => simp at hs
  | top => simp [Ideal.div]
  | coe r =>
    have hr : 0 < r := by exact_mod_cast hs
    have h1 : Real.sqrt r ≠ 0 := (Real.sqrt_pos.2 hr).ne'
    have h2 : ((Real.sqrt r : ℝ) : EReal) ≠ 0 := by exact_mod_cast h1
    rw [Ideal.rsqrt_coe, Ideal.sqrt_coe, if_neg (not_lt.2 hr.le), if_neg hr.ne', if_neg (not_lt.2 hr.le), Ideal.div, if_neg h2,
      EReal.coe_inv]

/-- The sum of a variance and the small number is positive. -/
theorem variance_add_eps_pos (x : Fin 1024 → EReal) : 0 < variance x + eps := by
  obtain ⟨r, hr, h⟩ := eps_real
  rw [h]
  have : (0 : EReal) < (r : EReal) := by exact_mod_cast hr
  exact lt_of_lt_of_le this (le_add_of_nonneg_left (variance_nonneg x))

/-- A row normalized with the reciprocal square root is the row normalized with the quotient. -/
theorem norm_eq (g b x : Fin 1024 → EReal) (k : Fin 1024) :
    (x k - mean x) * Ideal.rsqrt (variance x + eps) * g k + b k = norm g b x k := by
  rw [mul_rsqrt _ (variance_add_eps_pos x)]; rfl

/-- The root the gelu divides by is the real square root of two. -/
theorem rootTwo_eq : rootTwo = ((Real.sqrt 2 : ℝ) : EReal) := by
  have h : Ideal.ofBits .f32 0x40000000#32 = ((2 : ℝ) : EReal) := by
    simp [Ideal.ofBits, Ideal.ieee, -EReal.coe_mul]; norm_num
  rw [rootTwo, h, Ideal.sqrt_coe, if_neg (by norm_num)]

/-- Gelu written with the error function, and with a product for the quotient, is gelu. -/
theorem gelu_eq (x : EReal) : x * half * (1 + Ideal.erf (x * (((Real.sqrt 2)⁻¹ : ℝ) : EReal))) = gelu x := by
  have h : Real.sqrt 2 ≠ 0 := (Real.sqrt_pos.mpr (by norm_num)).ne'
  unfold gelu
  rw [rootTwo_eq, Ideal.div_coe h, one_div, neg_mul, Ideal.erfc_neg, mul_comm half x]

/-! ## Finite inputs give finite scores -/

/-- An extended real that is a real. -/
def IsReal (x : EReal) : Prop := ∃ r : ℝ, x = (r : EReal)

/-- A number strictly between the infinities is a real. -/
theorem fin_of_lt {x : EReal} (h1 : ⊥ < x) (h2 : x < ⊤) : IsReal x := by
  induction x with
  | bot => exact absurd h1 (lt_irrefl _)
  | top => exact absurd h2 (lt_irrefl _)
  | coe r => exact ⟨r, rfl⟩

/-- Sums of two reals are real. -/
theorem IsReal.add {x y : EReal} : IsReal x → IsReal y → IsReal (x + y)
  | ⟨a, ha⟩, ⟨b, hb⟩ => ⟨a + b, by rw [ha, hb, EReal.coe_add]⟩

/-- Differences of reals are real. -/
theorem IsReal.sub {x y : EReal} : IsReal x → IsReal y → IsReal (x - y)
  | ⟨a, ha⟩, ⟨b, hb⟩ => ⟨a - b, by rw [ha, hb, EReal.coe_sub]⟩

/-- Products of reals are real. -/
theorem IsReal.mul {x y : EReal} : IsReal x → IsReal y → IsReal (x * y)
  | ⟨a, ha⟩, ⟨b, hb⟩ => ⟨a * b, by rw [ha, hb, EReal.coe_mul]⟩

/-- A real over a real that is not zero is real. -/
theorem IsReal.div {x y : EReal} (hx : IsReal x) (hy : IsReal y) (h0 : y ≠ 0) : IsReal (Ideal.div x y) := by
  obtain ⟨a, ha⟩ := hx; obtain ⟨b, hb⟩ := hy
  exact ⟨a * b⁻¹, by rw [Ideal.div, if_neg h0, ha, hb, EReal.coe_mul, EReal.coe_inv]⟩

/-- The sum of the reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Finite sums of reals are real. -/
theorem IsReal.sum {ι : Type} (s : Finset ι) {f : ι → EReal} (h : ∀ i, IsReal (f i)) : IsReal (∑ i ∈ s, f i) := by
  choose r hr using h
  exact ⟨∑ i ∈ s, r i, by rw [← coe_sum]; exact Finset.sum_congr rfl fun i _ => hr i⟩

/-- The row length is a real. -/
theorem fin_width : IsReal width := ⟨1024, rfl⟩

/-- The row length is not zero. -/
theorem width_ne_zero : width ≠ 0 := by unfold width; exact_mod_cast (by norm_num : (1024 : ℝ) ≠ 0)

/-- The normalized row of a finite row is finite. -/
theorem fin_norm {g b x : Fin 1024 → EReal} (hg : ∀ k, IsReal (g k)) (hb : ∀ k, IsReal (b k)) (hx : ∀ k, IsReal (x k)) (k : Fin 1024) :
    IsReal (norm g b x k) := by
  have hm : IsReal (mean x) := (IsReal.sum _ hx).div fin_width width_ne_zero
  have hv : IsReal (variance x) := (IsReal.sum _ fun i => ((hx i).sub hm).mul ((hx i).sub hm)).div fin_width width_ne_zero
  obtain ⟨e, he, hee⟩ := eps_real
  have hs := variance_add_eps_pos x
  obtain ⟨s, hs'⟩ := hv.add ⟨e, hee⟩
  rw [hs'] at hs
  have hp : 0 < s := by exact_mod_cast hs
  unfold norm
  rw [hs', Ideal.sqrt_coe, if_neg (not_lt.2 hp.le)]
  refine ((((hx k).sub hm).div ⟨_, rfl⟩ ?_).mul (hg k)).add (hb k)
  exact_mod_cast (Real.sqrt_pos.2 hp).ne'

/-- A projection of a finite row by a finite matrix is finite. -/
theorem fin_proj {m n : ℕ} {W : Fin n → Fin m → EReal} {x : Fin m → EReal} (hW : ∀ e k, IsReal (W e k)) (hx : ∀ k, IsReal (x k))
    (e : Fin n) : IsReal (proj W x e) := IsReal.sum _ fun k => (hx k).mul (hW e k)

end Cert.Layer

end
-- ==== Proof.Softmax.lean ====
/- Softmax attention on a window of keys, with scores scaled to powers of two and the division done last, is softmax
   attention over all keys with the scores outside the band at minus infinity. -/
module

public import proofs.«01_k».proof.Proof.Spec

@[expose] public section

noncomputable section

open scoped BigOperators

namespace Cert.Layer

open Idealize.ShloMosaic

/-- The window's attention: weights by powers of two, divided by their sum after the values are added up. -/
def windowAttend {ι : Type} [Fintype ι] (a v : ι → EReal) : EReal :=
  (∑ c, Ideal.exp2 (a c - top a) * v c) * Ideal.div 1 (∑ c, Ideal.exp2 (a c - top a))

/-- The largest of finitely many is the supremum. -/
theorem top_eq_sup {ι : Type} [Fintype ι] (a : ι → EReal) : top a = Finset.univ.sup a := rfl

/-- Each is at most the largest. -/
theorem le_top_of {ι : Type} [Fintype ι] (a : ι → EReal) (i : ι) : a i ≤ top a := Finset.le_sup (f := a) (Finset.mem_univ i)

/-- A number that is one of them and at least each is the largest. -/
theorem top_eq_of {ι : Type} [Fintype ι] (a : ι → EReal) (i : ι) (h : ∀ j, a j ≤ a i) : top a = a i :=
  le_antisymm (Finset.sup_le fun j _ => h j) (le_top_of a i)

/-- One of finitely many (at least one) is the largest. -/
theorem exists_top {ι : Type} [Fintype ι] (a : ι → EReal) (i0 : ι) : ∃ i, top a = a i := by
  obtain ⟨i, _, hi⟩ := Finset.exists_mem_eq_sup Finset.univ ⟨i0, Finset.mem_univ i0⟩ a
  exact ⟨i, hi⟩

/-- A factor that is a nonnegative real goes into a finite sum of extended reals. -/
theorem sum_mul_real {ι : Type} (s : Finset ι) (f : ι → EReal) {r : ℝ} (hr : 0 ≤ r) :
    (∑ i ∈ s, f i) * (r : EReal) = ∑ i ∈ s, f i * (r : EReal) := by
  classical
  have h0 : (0 : EReal) ≤ (r : EReal) := by exact_mod_cast hr
  induction s using Finset.induction_on with
  | empty => simp
  | insert a s ha ih =>
    rw [Finset.sum_insert ha, Finset.sum_insert ha, EReal.right_distrib_of_nonneg_of_ne_top h0 (EReal.coe_ne_top r), ih]

/-- Two to the power of a real divided by the logarithm of two is the exponential. -/
theorem exp2_log (x : ℝ) : Ideal.exp2 (((Real.log 2)⁻¹ * x : ℝ) : EReal) = ((Real.exp x : ℝ) : EReal) := by
  show ((Real.rpow 2 ((Real.log 2)⁻¹ * x) : ℝ) : EReal) = _
  have h : Real.rpow 2 ((Real.log 2)⁻¹ * x) = Real.exp x := by
    show (2 : ℝ) ^ ((Real.log 2)⁻¹ * x) = Real.exp x
    rw [Real.rpow_def_of_pos (by norm_num), ← mul_assoc, mul_inv_cancel₀ (Real.log_pos (by norm_num)).ne', one_mul]
  rw [h]

variable {C P : Type} [Fintype C] [Fintype P]

/-- **The window's attention is the banded softmax.** Window place `c` holds key `pos c` where `valid c`; the valid
    places hold the band's keys, each once; the scores of the band's keys are the reals `l`, and the window holds them
    over the logarithm of two, minus infinity at the places that are not valid. -/
theorem windowAttend_eq (pos : C → P) (valid : C → Prop) (band : P → Prop) [DecidablePred valid] [DecidablePred band]
    (hband : ∀ c, valid c → band (pos c)) (hinj : ∀ c c', valid c → valid c' → pos c = pos c' → c = c')
    (hsurj : ∀ p, band p → ∃ c, valid c ∧ pos c = p) (p0 : P) (hp0 : band p0)
    (l : P → ℝ) (a v : C → EReal) (A w : P → EReal)
    (ha : ∀ c, valid c → a c = (((Real.log 2)⁻¹ * l (pos c) : ℝ) : EReal)) (ha' : ∀ c, ¬ valid c → a c = ⊥)
    (hA : ∀ p, band p → A p = ((l p : ℝ) : EReal)) (hA' : ∀ p, ¬ band p → A p = ⊥)
    (hv : ∀ c, valid c → v c = w (pos c)) :
    windowAttend a v = ∑ p, softmax A p * w p := by
  classical
  have hk : (0 : ℝ) < (Real.log 2)⁻¹ := inv_pos.2 (Real.log_pos (by norm_num))
  -- the largest score of the band
  obtain ⟨q, hq⟩ := exists_top A p0
  have hqb : band q := by
    by_contra hn
    have h1 := le_top_of A p0
    rw [hq, hA' q hn, hA p0 hp0] at h1
    exact absurd h1 (not_le.2 (EReal.bot_lt_coe _))
  have hqmax : ∀ p, band p → l p ≤ l q := fun p hp => by
    have h1 := le_top_of A p
    rw [hq, hA p hp, hA q hqb] at h1
    exact_mod_cast h1
  obtain ⟨d, hd, hdq⟩ := hsurj q hqb
  have htop : top a = (((Real.log 2)⁻¹ * l q : ℝ) : EReal) := by
    rw [← hdq, ← ha d hd]
    refine top_eq_of a d fun c => ?_
    by_cases hc : valid c
    · rw [ha c hc, ha d hd, hdq]
      exact_mod_cast mul_le_mul_of_nonneg_left (hqmax _ (hband c hc)) hk.le
    · rw [ha' c hc]; exact bot_le
  -- the weights
  let E : P → ℝ := fun p => if band p then Real.exp (l p - l q) else 0
  let D : C → ℝ := fun c => if valid c then E (pos c) else 0
  have hE0 : ∀ p, 0 ≤ E p := fun p => by
    by_cases hp : band p
    · simp only [E, if_pos hp]; exact (Real.exp_pos _).le
    · simp only [E, if_neg hp]; exact le_refl _
  have hE : ∀ p, Ideal.exp (A p - top A) = ((E p : ℝ) : EReal) := fun p => by
    by_cases hp : band p
    · simp only [E, if_pos hp]; rw [hq, hA p hp, hA q hqb, ← EReal.coe_sub]; rfl
    · simp only [E, if_neg hp]; rw [hq, hA' p hp, hA q hqb, EReal.bot_sub]; rfl
  have hD : ∀ c, Ideal.exp2 (a c - top a) = ((D c : ℝ) : EReal) := fun c => by
    by_cases hc : valid c
    · simp only [D, E, if_pos hc, if_pos (hband c hc)]
      rw [htop, ha c hc, ← EReal.coe_sub, ← mul_sub, exp2_log]
    · simp only [D, if_neg hc]; rw [htop, ha' c hc, EReal.bot_sub]; rfl
  -- a sum over the window is a sum over all keys
  have hsum : ∀ {M : Type} [AddCommMonoid M] (f : C → M) (g : P → M), (∀ c, valid c → f c = g (pos c)) →
      (∀ c, ¬ valid c → f c = 0) → (∀ p, ¬ band p → g p = 0) → ∑ c, f c = ∑ p, g p := by
    intro M _ f g hfg hf hg
    rw [← Finset.sum_filter_of_ne (p := valid) (fun c _ hc => by by_contra h; exact hc (hf c h)),
      ← Finset.sum_filter_of_ne (p := band) (fun p _ hp => by by_contra h; exact hp (hg p h))]
    refine Finset.sum_bij (fun c _ => pos c) ?_ ?_ ?_ ?_
    · intro c hc; exact Finset.mem_filter.2 ⟨Finset.mem_univ _, hband c (Finset.mem_filter.1 hc).2⟩
    · intro c hc c' hc' h; exact hinj c c' (Finset.mem_filter.1 hc).2 (Finset.mem_filter.1 hc').2 h
    · intro p hp
      obtain ⟨c, hc, hcp⟩ := hsurj p (Finset.mem_filter.1 hp).2
      exact ⟨c, Finset.mem_filter.2 ⟨Finset.mem_univ _, hc⟩, hcp⟩
    · intro c hc; exact hfg c (Finset.mem_filter.1 hc).2
  have hDE : ∑ c, D c = ∑ p, E p :=
    hsum D E (fun c hc => by simp only [D, if_pos hc]) (fun c hc => by simp only [D, if_neg hc]) (fun p hp => by simp only [E, if_neg hp])
  have hpos : 0 < ∑ p, E p :=
    Finset.sum_pos' (fun p _ => hE0 p) ⟨q, Finset.mem_univ q, by simp only [E, if_pos hqb]; exact Real.exp_pos _⟩
  have hne : (((∑ p, E p : ℝ)) : EReal) ≠ 0 := by exact_mod_cast hpos.ne'
  have hinv : (((∑ p, E p : ℝ)) : EReal)⁻¹ = (((∑ p, E p)⁻¹ : ℝ) : EReal) := (EReal.coe_inv _).symm
  unfold windowAttend softmax
  simp only [hD, hE]
  rw [coe_sum, coe_sum, hDE, Ideal.div, if_neg hne, one_mul, hinv,
    hsum (fun c => ((D c : ℝ) : EReal) * v c) (fun p => ((E p : ℝ) : EReal) * w p)
      (fun c hc => by simp only [D, if_pos hc]; rw [hv c hc]) (fun c hc => by simp only [D, if_neg hc]; simp)
      (fun p hp => by simp only [E, if_neg hp]; simp),
    sum_mul_real _ _ (inv_pos.2 hpos).le]
  refine Finset.sum_congr rfl fun p _ => ?_
  rw [Ideal.div, if_neg hne, hinv, mul_right_comm]

end Cert.Layer

end
-- ==== Proof.Rows.lean ====
/- Vectors of rows read at an index: what each layout operation, sum, maximum and product of a tile is at row `r` and
   column `c`, for any extents; then the row computations a block is made of, as functions of whole tiles, each read at
   an index as the mathematics of Spec. -/
module

public import proofs.«01_k».proof.Proof.Softmax
public import Idealize.ShloMosaic.Lib.Pipeline.Value
public import Idealize.ShloMosaic.Lib.MatmulPlain
public import Idealize.ShloMosaic.Lib.ValueIdx

@[expose] public section

noncomputable section

open scoped BigOperators

namespace Cert.Layer

open Idealize.ShloMosaic Idealize.ShloMosaic.ValueIdx

/-- The shape of `n` rows of length `m`. -/
abbrev sh2 (n m : ℕ) : Shape := ⟨2, ![n, m]⟩

/-- The shape of `n` numbers. -/
abbrev sh1 (n : ℕ) : Shape := ⟨1, ![n]⟩

variable {n m k : ℕ} {α : Type}

/-- A sum over the columns, at a row. -/
theorem rowSum_apply (x : FVec Ideal (sh2 n m) .f32) (acc : BitVec 32) (h : Shape.Reduces (sh2 n m) [1] (sh1 n))
    (hφ : FKind.Formats .f32) (hacc : acc = FKind.add.neutral .f32 hφ) (r : Fin n) :
    multiReduction .add [1] (sh1 n) x acc h hφ hacc (ix1 r) = ∑ c : Fin m, x (ix2 r c) := by
  rw [Ideal.multiReduction_add_single]
  refine Finset.sum_congr rfl fun c _ => congrArg x ?_
  funext a
  match a with
  | ⟨0, _⟩ => rfl
  | ⟨1, _⟩ => rfl

/-- A maximum over the columns, at a row. -/
theorem rowMax_apply (x : FVec Ideal (sh2 n m) .f32) (h : Shape.Reduces (sh2 n m) [1] (sh1 n))
    (hφ : FKind.Formats .f32) (hacc : (0xFF800000#32 : BitVec 32) = FKind.maximumf.neutral .f32 hφ) (r : Fin n) :
    multiReduction .maximumf [1] (sh1 n) x 0xFF800000#32 h hφ hacc (ix1 r) = top fun c : Fin m => x (ix2 r c) := by
  rw [Ideal.multiReduction_maximumf_single]
  show Finset.fold max (Ideal.ofBits .f32 0xFF800000#32) _ _ = _
  rw [ofBits_bot]
  show Finset.fold max ⊥ _ _ = Finset.fold max ⊥ _ _
  refine congrArg (fun f => Finset.fold max ⊥ f Finset.univ) ?_
  funext c
  refine congrArg x ?_
  funext a
  match a with
  | ⟨0, _⟩ => rfl
  | ⟨1, _⟩ => rfl

/-- The sums of the rows. -/
def rowSums (x : FVec Ideal (sh2 n m) .f32) (h : Shape.Reduces (sh2 n m) [1] (sh1 n)) : FVec Ideal (sh1 n) .f32 :=
  multiReduction .add [1] (sh1 n) x 0x00000000#32 h (.inl rfl) rfl

/-- The sum of a row. -/
theorem rowSums_apply (x : FVec Ideal (sh2 n m) .f32) (h : Shape.Reduces (sh2 n m) [1] (sh1 n)) (r : Fin n) :
    rowSums x h (ix1 r) = ∑ c : Fin m, x (ix2 r c) := rowSum_apply x _ h (.inl rfl) rfl r

/-- The maxima of the rows. -/
def rowMaxs (x : FVec Ideal (sh2 n m) .f32) (h : Shape.Reduces (sh2 n m) [1] (sh1 n)) : FVec Ideal (sh1 n) .f32 :=
  multiReduction .maximumf [1] (sh1 n) x 0xFF800000#32 h (.inl rfl) rfl

/-- The maximum of a row. -/
theorem rowMaxs_apply (x : FVec Ideal (sh2 n m) .f32) (h : Shape.Reduces (sh2 n m) [1] (sh1 n)) (r : Fin n) :
    rowMaxs x h (ix1 r) = top fun c : Fin m => x (ix2 r c) := rowMax_apply x h (.inl rfl) rfl r

/-- Numbers as a column. -/
theorem toCol_apply (x : (sh1 n).Idx → α) (h : (sh1 n).ShapeCasts (sh2 n 1)) (r : Fin n) (c : Fin 1) :
    shapeCast (sh2 n 1) x h (ix2 r c) = x (ix1 r) :=
  shapeCast_apply x h _ _ (by
    rw [Shape.rowMajor_val_one, Shape.rowMajor_val_two]
    have := c.isLt
    show r.val = r.val * 1 + c.val; omega)

/-- Numbers as a row. -/
theorem toRow_apply (x : (sh1 m).Idx → α) (h : (sh1 m).ShapeCasts (sh2 1 m)) (r : Fin 1) (c : Fin m) :
    shapeCast (sh2 1 m) x h (ix2 r c) = x (ix1 c) :=
  shapeCast_apply x h _ _ (by
    rw [Shape.rowMajor_val_one, Shape.rowMajor_val_two]
    have := r.isLt
    show c.val = r.val * m + c.val
    rw [show r.val = 0 by omega]; omega)

/-- A row as numbers. -/
theorem ofRow_apply (x : (sh2 1 m).Idx → α) (h : (sh2 1 m).ShapeCasts (sh1 m)) (c : Fin m) :
    shapeCast (sh1 m) x h (ix1 c) = x (ix2 0 c) :=
  shapeCast_apply x h _ _ (by
    rw [Shape.rowMajor_val_one, Shape.rowMajor_val_two]
    show 0 * m + c.val = c.val; omega)

/-- A column repeated over the columns. -/
theorem bcCol_apply (x : (sh2 n 1).Idx → α) (h : (sh2 n 1).Broadcasts (sh2 n m)) (r : Fin n) (c : Fin m) :
    broadcastTo (sh2 n m) x h (ix2 r c) = x (ix2 r 0) :=
  broadcastTo_apply x h _ _ fun a => by
    match a with
    | ⟨0, _⟩ =>
      show r.val = if n = 1 then 0 else r.val
      split
      · have := r.isLt; omega
      · rfl
    | ⟨1, _⟩ => rfl

/-- A row repeated over the rows. -/
theorem bcRow_apply (x : (sh2 1 m).Idx → α) (h : (sh2 1 m).Broadcasts (sh2 n m)) (r : Fin n) (c : Fin m) :
    broadcastTo (sh2 n m) x h (ix2 r c) = x (ix2 0 c) :=
  broadcastTo_apply x h _ _ fun a => by
    match a with
    | ⟨0, _⟩ => rfl
    | ⟨1, _⟩ =>
      show c.val = if m = 1 then 0 else c.val
      split
      · have := c.isLt; omega
      · rfl

/-- A tile cut out of a larger one. -/
theorem cut_apply {n' m' : ℕ} (o0 o1 : ℕ) (x : (sh2 n m).Idx → α) (h : (sh2 n m).Slices ![o0, o1] (sh2 n' m')) (r : Fin n') (c : Fin m')
    (R : Fin n) (C : Fin m) (hR : R.val = o0 + r.val) (hC : C.val = o1 + c.val) :
    extractStridedSlice (sh2 n' m') ![o0, o1] x h (ix2 r c) = x (ix2 R C) :=
  extractStridedSlice_apply _ x h _ _ fun a => by
    match a with
    | ⟨0, _⟩ => exact hR
    | ⟨1, _⟩ => exact hC

/-- Rows times the transpose of a matrix, from zero. -/
theorem mulT_apply (d : DotDims (sh2 n k) (sh2 m k) (sh2 n m)) (hd : d = DotDims.transposedRhs n k m)
    (x : FVec Ideal (sh2 n k) .f32) (w : FVec Ideal (sh2 m k) .f32) (r : Fin n) (c : Fin m) :
    matmul d none x w (constant (sh2 n m) .f32 0x00000000#32) (ix2 r c) = ∑ i : Fin k, x (ix2 r i) * w (ix2 c i) := by
  subst hd
  simp only [matmul]
  rw [Ideal.matmul_transposedRhs_apply]
  show Ideal.ofBits .f32 0x00000000#32 + _ = _
  rw [Ideal.ofBits_zero_f32, zero_add]

/-- Rows times a matrix, from zero. -/
theorem mulP_apply (d : DotDims (sh2 n k) (sh2 k m) (sh2 n m)) (hd : d = DotDims.plain n k m)
    (x : FVec Ideal (sh2 n k) .f32) (w : FVec Ideal (sh2 k m) .f32) (r : Fin n) (c : Fin m) :
    matmul d none x w (constant (sh2 n m) .f32 0x00000000#32) (ix2 r c) = ∑ i : Fin k, x (ix2 r i) * w (ix2 i c) := by
  subst hd
  simp only [matmul]
  rw [Ideal.matmul_plain_apply]
  show Ideal.ofBits .f32 0x00000000#32 + _ = _
  rw [Ideal.ofBits_zero_f32, zero_add]

/-! ## Normalizing rows -/

/-- The rows of a tile less their means. -/
def centerRows (x : FVec Ideal (sh2 n 1024) .f32) (hr : Shape.Reduces (sh2 n 1024) [1] (sh1 n)) (hc : (sh1 n).ShapeCasts (sh2 n 1))
    (hb : (sh2 n 1).Broadcasts (sh2 n 1024)) : FVec Ideal (sh2 n 1024) .f32 :=
  subf x (broadcastTo (sh2 n 1024) (divf (shapeCast (sh2 n 1) (rowSums x hr) hc)
    (broadcast (sh2 n 1) (Scalar.ofBits .f32 0x44800000#32))) hb)

/-- The normalized rows of a tile. -/
def normRows (x : FVec Ideal (sh2 n 1024) .f32) (g b : FVec Ideal (sh1 1024) .f32) (hr : Shape.Reduces (sh2 n 1024) [1] (sh1 n))
    (hc : (sh1 n).ShapeCasts (sh2 n 1)) (hb : (sh2 n 1).Broadcasts (sh2 n 1024)) (hg : (sh1 1024).ShapeCasts (sh2 1 1024))
    (hgb : (sh2 1 1024).Broadcasts (sh2 n 1024)) : FVec Ideal (sh2 n 1024) .f32 :=
  addf (mulf (mulf (centerRows x hr hc hb) (broadcastTo (sh2 n 1024) (rsqrt (addf
      (divf (shapeCast (sh2 n 1) (rowSums (mulf (centerRows x hr hc hb) (centerRows x hr hc hb)) hr) hc)
        (broadcast (sh2 n 1) (Scalar.ofBits .f32 0x44800000#32)))
      (broadcast (sh2 n 1) (Scalar.ofBits .f32 0x3727C5AC#32)))) hb))
    (broadcastTo (sh2 n 1024) (shapeCast (sh2 1 1024) g hg) hgb))
    (broadcastTo (sh2 n 1024) (shapeCast (sh2 1 1024) b hg) hgb)

/-- A row less its mean, at a column. -/
theorem centerRows_apply (x : FVec Ideal (sh2 n 1024) .f32) (hr : Shape.Reduces (sh2 n 1024) [1] (sh1 n)) (hc : (sh1 n).ShapeCasts (sh2 n 1))
    (hb : (sh2 n 1).Broadcasts (sh2 n 1024)) (r : Fin n) (c : Fin 1024) :
    centerRows x hr hc hb (ix2 r c) = x (ix2 r c) - mean fun k => x (ix2 r k) := by
  unfold centerRows
  rw [subf_apply, bcCol_apply, divf_apply, toCol_apply, rowSums_apply]
  show _ - Ideal.div _ (Ideal.ofBits .f32 0x44800000#32) = _
  rw [ofBits_width]; rfl

/-- A normalized row, at a column. -/
theorem normRows_apply (x : FVec Ideal (sh2 n 1024) .f32) (g b : FVec Ideal (sh1 1024) .f32) (hr : Shape.Reduces (sh2 n 1024) [1] (sh1 n))
    (hc : (sh1 n).ShapeCasts (sh2 n 1)) (hb : (sh2 n 1).Broadcasts (sh2 n 1024)) (hg : (sh1 1024).ShapeCasts (sh2 1 1024))
    (hgb : (sh2 1 1024).Broadcasts (sh2 n 1024)) (r : Fin n) (c : Fin 1024) :
    normRows x g b hr hc hb hg hgb (ix2 r c) = norm (fun k => g (ix1 k)) (fun k => b (ix1 k)) (fun k => x (ix2 r k)) c := by
  rw [← norm_eq]
  unfold normRows
  rw [addf_apply, mulf_apply, mulf_apply, bcCol_apply, bcRow_apply, bcRow_apply, toRow_apply, toRow_apply, centerRows_apply]
  show (x (ix2 r c) - mean fun k => x (ix2 r k)) * Ideal.rsqrt (_ + Ideal.ofBits .f32 0x3727C5AC#32) * _ + _ = _
  rw [divf_apply, toCol_apply, rowSums_apply]
  show (x (ix2 r c) - mean fun k => x (ix2 r k)) * Ideal.rsqrt (Ideal.div _ (Ideal.ofBits .f32 0x44800000#32) + _) * _ + _ = _
  rw [ofBits_width]
  have h : ∀ k, mulf (centerRows x hr hc hb) (centerRows x hr hc hb) (ix2 r k)
      = (x (ix2 r k) - mean fun k => x (ix2 r k)) * (x (ix2 r k) - mean fun k => x (ix2 r k)) := fun k => by
    rw [mulf_apply, centerRows_apply]
  simp only [h]
  rfl

/-! ## One head on one tile of query rows -/

/-- One head's output: the scores of the query rows against the window's key rows plus the mask, their powers of two, the
    values weighted by these, over their sums. -/
def headTile {d : ℕ} (dqk : DotDims (sh2 n d) (sh2 m d) (sh2 n m)) (dpv : DotDims (sh2 n m) (sh2 m d) (sh2 n d))
    (q : FVec Ideal (sh2 n d) .f32) (key val : FVec Ideal (sh2 m d) .f32) (mask : FVec Ideal (sh2 n m) .f32)
    (hr : Shape.Reduces (sh2 n m) [1] (sh1 n)) (hc : (sh1 n).ShapeCasts (sh2 n 1)) (hb : (sh2 n 1).Broadcasts (sh2 n m))
    (hd : (sh2 n 1).Broadcasts (sh2 n d)) : FVec Ideal (sh2 n d) .f32 :=
  let a := addf (matmul dqk none q key (constant (sh2 n m) .f32 0x00000000#32)) mask
  let p := exp2 (subf a (broadcastTo (sh2 n m) (shapeCast (sh2 n 1) (rowMaxs a hr) hc) hb))
  mulf (matmul dpv none p val (constant (sh2 n d) .f32 0x00000000#32))
    (broadcastTo (sh2 n d) (divf (broadcast (sh2 n 1) (Scalar.ofBits .f32 0x3F800000#32))
      (shapeCast (sh2 n 1) (rowSums p hr) hc)) hd)

/-- One head's output at a row and a lane is the window's attention. -/
theorem headTile_apply {d : ℕ} (dqk : DotDims (sh2 n d) (sh2 m d) (sh2 n m)) (dpv : DotDims (sh2 n m) (sh2 m d) (sh2 n d))
    (hqk : dqk = DotDims.transposedRhs n d m) (hpv : dpv = DotDims.plain n m d)
    (q : FVec Ideal (sh2 n d) .f32) (key val : FVec Ideal (sh2 m d) .f32) (mask : FVec Ideal (sh2 n m) .f32)
    (hr : Shape.Reduces (sh2 n m) [1] (sh1 n)) (hc : (sh1 n).ShapeCasts (sh2 n 1)) (hb : (sh2 n 1).Broadcasts (sh2 n m))
    (hd : (sh2 n 1).Broadcasts (sh2 n d)) (r : Fin n) (l : Fin d) :
    headTile dqk dpv q key val mask hr hc hb hd (ix2 r l)
      = windowAttend (fun c => (∑ i, q (ix2 r i) * key (ix2 c i)) + mask (ix2 r c)) (fun c => val (ix2 c l)) := by
  unfold headTile
  have ha : ∀ c, addf (matmul dqk none q key (constant (sh2 n m) .f32 0x00000000#32)) mask (ix2 r c)
      = (∑ i, q (ix2 r i) * key (ix2 c i)) + mask (ix2 r c) := fun c => by
    rw [addf_apply, mulT_apply dqk hqk]
  generalize hA : addf (matmul dqk none q key (constant (sh2 n m) .f32 0x00000000#32)) mask = a at ha
  have hp : ∀ c, exp2 (subf a (broadcastTo (sh2 n m) (shapeCast (sh2 n 1) (rowMaxs a hr) hc) hb)) (ix2 r c)
      = Ideal.exp2 (a (ix2 r c) - top fun c => a (ix2 r c)) := fun c => by
    show Ideal.exp2 (subf a _ (ix2 r c)) = _
    rw [subf_apply, bcCol_apply, toCol_apply, rowMaxs_apply]
  rw [mulf_apply, mulP_apply dpv hpv, bcCol_apply, divf_apply, toCol_apply, rowSums_apply]
  simp only [hp]
  show (∑ c, Ideal.exp2 (a (ix2 r c) - top fun c => a (ix2 r c)) * _) * Ideal.div (Ideal.ofBits .f32 0x3F800000#32) _ = _
  rw [Ideal.ofBits_one_f32]
  unfold windowAttend
  simp only [ha]

end Cert.Layer

end
-- ==== Proof.Tile.lean ====
/- What the body of one grid point computes, stated on whole tiles: the normalized rows, the three projections, the mask,
   the sixteen heads on the two halves of the query rows, the output projection with its residual, and the perceptron.
   The body's printed values are these by unfolding. -/
module

public import proofs.«01_k».proof.Proof.Rows
public import proofs.«01_k».proof.Proof.Gen.KernelIdeal.Value

@[expose] public section

noncomputable section

open scoped BigOperators

namespace Cert.KernelIdeal.Tile

open Cert.KernelIdeal Cert.KernelIdeal.Gen Cert.Layer
open Idealize.ShloMosaic Idealize.ShloMosaic.ValueIdx

/-- The tile of half `s` and head `h` lies in the query tile. -/
theorem cutsQ (s : Fin 2) (h : Fin 16) : S512x1024.Slices ![256 * s.val, 64 * h.val] S256x64 :=
  ⟨rfl, fun a => by
    have := s.isLt; have := h.isLt
    match a with
    | ⟨0, _⟩ => show 256 * s.val + 256 ≤ 512; omega
    | ⟨1, _⟩ => show 64 * h.val + 64 ≤ 1024; omega⟩

/-- The window of half `s` and head `h` lies in the key tile. -/
theorem cutsK (s : Fin 2) (h : Fin 16) : S768x1024.Slices ![256 * s.val, 64 * h.val] S512x64 :=
  ⟨rfl, fun a => by
    have := s.isLt; have := h.isLt
    match a with
    | ⟨0, _⟩ => show 256 * s.val + 512 ≤ 768; omega
    | ⟨1, _⟩ => show 64 * h.val + 64 ≤ 1024; omega⟩

/-- Head `h` on half `s` of the query rows. -/
def head (q : FVec Ideal S512x1024 .f32) (k v : FVec Ideal S768x1024 .f32) (mask : FVec Ideal S256x512 .f32) (s : Fin 2) (h : Fin 16) :
    FVec Ideal S256x64 .f32 :=
  headTile dot_S256x64_S512x64_S256x512_1_1_0_0_n_n dot_S256x512_S512x64_S256x64_1_0_0_1_n_n
    (extractStridedSlice S256x64 ![256 * s.val, 64 * h.val] q (cutsQ s h))
    (extractStridedSlice S512x64 ![256 * s.val, 64 * h.val] k (cutsK s h))
    (extractStridedSlice S512x64 ![256 * s.val, 64 * h.val] v (cutsK s h)) mask
    reduces_S256x512_S256 shapeCasts_S256_S256x1 broadcasts_S256x1_S256x512 broadcasts_S256x1_S256x64

/-- The sixteen heads on half `s`, side by side. -/
def heads (q : FVec Ideal S512x1024 .f32) (k v : FVec Ideal S768x1024 .f32) (mask : FVec Ideal S256x512 .f32) (s : Fin 2) :
    FVec Ideal S256x1024 .f32 :=
  concatenate S256x1024 1 (List.ofFn fun h : Fin 16 => (⟨S256x64, head q k v mask s h⟩ : (s : Shape) × (s.Idx → EReal)))
    concatenates_S256x64_S256x64_S256x64_S256x64_S256x64_S256x64_S256x64_S256x64_S256x64_S256x64_S256x64_S256x64_S256x64_S256x64_S256x64_S256x64_S256x1024_d1

/-- The heads of both halves, projected, plus the query rows. -/
def midTile (x : FVec Ideal S512x1024 .f32) (q : FVec Ideal S512x1024 .f32) (k v : FVec Ideal S768x1024 .f32)
    (mask0 mask1 : FVec Ideal S256x512 .f32) (wo : FVec Ideal S1024x1024 .f32) : FVec Ideal S512x1024 .f32 :=
  addf (matmul dot_S512x1024_S1024x1024_S512x1024_1_1_0_0_n_n none
    (concatenate S512x1024 0 [⟨S256x1024, heads q k v mask0 0⟩, ⟨S256x1024, heads q k v mask1 1⟩] concatenates_S256x1024_S256x1024_S512x1024_d0)
    wo (constant S512x1024 .f32 0x00000000#32)) x

/-- The perceptron on the rows `y`, with its residual. -/
def mlpTile (g b : FVec Ideal S1024 .f32) (w1 : FVec Ideal S2048x1024 .f32) (b1 : FVec Ideal S1x2048 .f32)
    (w2 : FVec Ideal S1024x2048 .f32) (b2 : FVec Ideal S1x1024 .f32) (y : FVec Ideal S512x1024 .f32) : FVec Ideal S512x1024 .f32 :=
  let hid := addf (matmul dot_S512x1024_S2048x1024_S512x2048_1_1_0_0_n_n none
      (normRows y g b reduces_S512x1024_S512 shapeCasts_S512_S512x1 broadcasts_S512x1_S512x1024 shapeCasts_S1024_S1x1024 broadcasts_S1x1024_S512x1024)
      w1 (constant S512x2048 .f32 0x00000000#32))
    (broadcastTo S512x2048 (shapeCast S1x2048 (shapeCast S2048 b1 shapeCasts_S1x2048_S2048) shapeCasts_S2048_S1x2048) broadcasts_S1x2048_S512x2048)
  addf (addf (matmul dot_S512x2048_S1024x2048_S512x1024_1_1_0_0_n_n none
      (mulf (mulf hid (broadcast S512x2048 (Scalar.ofBits .f32 0x3F000000#32)))
        (addf (broadcast S512x2048 (Scalar.ofBits .f32 0x3F800000#32)) (erf (mulf hid (broadcast S512x2048 (Named.named κ "inv_sqrt2" 0x3F3504F3#32))))))
      w2 (constant S512x1024 .f32 0x00000000#32))
    (broadcastTo S512x1024 (shapeCast S1x1024 (shapeCast S1024 b2 shapeCasts_S1x1024_S1024) shapeCasts_S1024_S1x1024) broadcasts_S1x1024_S512x1024)) y

/-- The normalized rows of the halo and the block, the halo first. -/
def normTile (x0 : FVec Ideal S1x512x1024 .f32) (x1 : FVec Ideal S1x256x1024 .f32) (g b : FVec Ideal S1x1024 .f32) : FVec Ideal S768x1024 .f32 :=
  normRows (concatenate S768x1024 0 [⟨S256x1024, shapeCast S256x1024 x1 shapeCasts_S1x256x1024_S256x1024⟩,
      ⟨S512x1024, shapeCast S512x1024 x0 shapeCasts_S1x512x1024_S512x1024⟩] concatenates_S256x1024_S512x1024_S768x1024_d0)
    (shapeCast S1024 g shapeCasts_S1x1024_S1024) (shapeCast S1024 b shapeCasts_S1x1024_S1024)
    reduces_S768x1024_S768 shapeCasts_S768_S768x1 broadcasts_S768x1_S768x1024 shapeCasts_S1024_S1x1024 broadcasts_S1x1024_S768x1024

/-- The scaled query projection of the block's rows. -/
def queryTile (xn : FVec Ideal S768x1024 .f32) (wq : FVec Ideal S1024x1024 .f32) : FVec Ideal S512x1024 .f32 :=
  mulf (matmul dot_S512x1024_S1024x1024_S512x1024_1_1_0_0_n_n none
      (extractStridedSlice S512x1024 ![256, 0] xn slices_S768x1024_o256_0_S512x1024) wq (constant S512x1024 .f32 0x00000000#32))
    (broadcast S512x1024 (Named.named κ "scale_log2e" 0x3E38AA3B#32))

/-- A projection of all the rows. -/
def keyTile (xn : FVec Ideal S768x1024 .f32) (w : FVec Ideal S1024x1024 .f32) : FVec Ideal S768x1024 .f32 :=
  matmul dot_S768x1024_S1024x1024_S768x1024_1_1_0_0_n_n none xn w (constant S768x1024 .f32 0x00000000#32)

/-- The mask of the half whose window begins at row `a - 256` of the sequence. -/
def maskTile (a : BitVec 32) : FVec Ideal S256x512 .f32 :=
  select (andi (andi
      (cmpi .sge (iota .tc S256x512 32 [1] iota_S256x512_d1_w32) (addi (iota .tc S256x512 32 [0] iota_S256x512_d0_w32) (broadcast S256x512 1#32)))
      (cmpi .sle (iota .tc S256x512 32 [1] iota_S256x512_d1_w32) (addi (iota .tc S256x512 32 [0] iota_S256x512_d0_w32) (broadcast S256x512 256#32))))
      (cmpi .sge (addi (broadcast S256x512 (Scalar.subi a 256#32)) (iota .tc S256x512 32 [1] iota_S256x512_d1_w32)) (broadcast S256x512 0#32)))
    (broadcast S256x512 (Scalar.ofBits .f32 0x00000000#32)) (broadcast S256x512 (Named.named κ "mask" 0xF149F2CA#32))

/-- The first row of the block, as a word. -/
def firstRow (i : grid0.Coords) : BitVec 32 := Scalar.muli (BitVec.ofNat 32 (i 1).val) 512#32

/-- The block's result from its input tiles. -/
def outTile (i : grid0.Coords) (x0 : FVec Ideal S1x512x1024 .f32) (x1 : FVec Ideal S1x256x1024 .f32) (g b : FVec Ideal S1x1024 .f32)
    (wq wk wv wo : FVec Ideal S1024x1024 .f32) (w1 : FVec Ideal S2048x1024 .f32) (b1 : FVec Ideal S1x2048 .f32)
    (w2 : FVec Ideal S1024x2048 .f32) (b2 : FVec Ideal S1x1024 .f32) : FVec Ideal S512x1024 .f32 :=
  mlpTile (shapeCast S1024 g shapeCasts_S1x1024_S1024) (shapeCast S1024 b shapeCasts_S1x1024_S1024) w1 b1 w2 b2
    (midTile (shapeCast S512x1024 x0 shapeCasts_S1x512x1024_S512x1024) (queryTile (normTile x0 x1 g b) wq) (keyTile (normTile x0 x1 g b) wk)
      (keyTile (normTile x0 x1 g b) wv) (maskTile (Scalar.addi (firstRow i) 0#32)) (maskTile (Scalar.addi (firstRow i) 256#32)) wo)

/-! ## The printed values are these -/

section Printed

variable (i : grid0.Coords) (x0 : FVec Ideal S1x512x1024 .f32) (x1 : FVec Ideal S1x256x1024 .f32) (x2 x3 : FVec Ideal S1x1024 .f32)
  (x4 x5 x6 x7 : FVec Ideal S1024x1024 .f32) (x8 : FVec Ideal S2048x1024 .f32) (x9 : FVec Ideal S1x2048 .f32)
  (x10 : FVec Ideal S1024x2048 .f32) (x11 : FVec Ideal S1x1024 .f32)

/-- The normalized rows. -/
theorem norm_printed : k0_pay5 x2 x3 x0 x1 = normTile x0 x1 x2 x3 := rfl

/-- The scaled query projection. -/
theorem query_printed : k0_pay6 x2 x3 x0 x1 x4 = queryTile (normTile x0 x1 x2 x3) x4 := rfl

/-- The mask of the first half. -/
theorem mask0_printed (v : BitVec 32) : k0_pay10 (F := Ideal) v = maskTile (Scalar.addi v 0#32) := rfl

/-- The mask of the second half. -/
theorem mask1_printed (v : BitVec 32) :
    k0_pay41 (F := Ideal) v (iota .tc S256x512 32 [1] iota_S256x512_d1_w32) k0_pay9 = maskTile (Scalar.addi v 256#32) := rfl

/-- The heads of the first half. -/
theorem heads0_printed :
    k0_pay86 i x0 x1 x2 x3 x4 x5 x6 x7 x8 x9 x10 x11
      = heads (k0_pay80 i x0 x1 x2 x3 x4 x5 x6 x7 x8 x9 x10 x11) (k0_pay82 i x0 x1 x2 x3 x4 x5 x6 x7 x8 x9 x10 x11)
          (k0_pay83 i x0 x1 x2 x3 x4 x5 x6 x7 x8 x9 x10 x11) (k0_pay85 i x0 x1 x2 x3 x4 x5 x6 x7 x8 x9 x10 x11) 0 := rfl

/-- The block's result, its loads still written out. -/
theorem out_printed_loads :
    out0_12 (F := Ideal) i x0 x1 x2 x3 x4 x5 x6 x7 x8 x9 x10 x11
      = View.canon (Val := Elt Ideal) [⟨r0_1, shapeCast S1x512x1024 (α := EReal) (outTile i (View.ld (Val := Elt Ideal) (e' := .f32) x0 r0_1) (View.ld (Val := Elt Ideal) (e' := .f32) x1 r0_2) (View.ld (Val := Elt Ideal) (e' := .f32) x2 r0_0) (View.ld (Val := Elt Ideal) (e' := .f32) x3 r0_0)
          (View.ld (Val := Elt Ideal) (e' := .f32) x4 r0_3) (View.ld (Val := Elt Ideal) (e' := .f32) x5 r0_3) (View.ld (Val := Elt Ideal) (e' := .f32) x6 r0_3) (View.ld (Val := Elt Ideal) (e' := .f32) x7 r0_3) (View.ld (Val := Elt Ideal) (e' := .f32) x8 r0_4) (View.ld (Val := Elt Ideal) (e' := .f32) x9 r0_5) (View.ld (Val := Elt Ideal) (e' := .f32) x10 r0_6)
          (View.ld (Val := Elt Ideal) (e' := .f32) x11 r0_0)) shapeCasts_S512x1024_S1x512x1024⟩] := rfl

/-- **What one grid point stores.** -/
theorem out_printed :
    out0_12 (F := Ideal) i x0 x1 x2 x3 x4 x5 x6 x7 x8 x9 x10 x11
      = shapeCast S1x512x1024 (outTile i x0 x1 x2 x3 x4 x5 x6 x7 x8 x9 x10 x11) shapeCasts_S512x1024_S1x512x1024 := by
  have z3 : (![0, 0, 0] : Fin 3 → ℕ) = fun _ => 0 := by decide
  have z2 : (![0, 0] : Fin 2 → ℕ) = fun _ => 0 := by decide
  rw [out_printed_loads, View.canon_unit_zero z3]
  have l0 : ∀ X : Vec Ideal S1x1024 .f32, View.ld (Val := Elt Ideal) (e' := .f32) X r0_0 = X :=
    fun X => View.ld_unit_zero (S := S1x1024) z2 _ X
  have l1 : ∀ X : Vec Ideal S1x512x1024 .f32, View.ld (Val := Elt Ideal) (e' := .f32) X r0_1 = X :=
    fun X => View.ld_unit_zero (S := S1x512x1024) z3 _ X
  have l2 : ∀ X : Vec Ideal S1x256x1024 .f32, View.ld (Val := Elt Ideal) (e' := .f32) X r0_2 = X :=
    fun X => View.ld_unit_zero (S := S1x256x1024) z3 _ X
  have l3 : ∀ X : Vec Ideal S1024x1024 .f32, View.ld (Val := Elt Ideal) (e' := .f32) X r0_3 = X :=
    fun X => View.ld_unit_zero (S := S1024x1024) z2 _ X
  have l4 : ∀ X : Vec Ideal S2048x1024 .f32, View.ld (Val := Elt Ideal) (e' := .f32) X r0_4 = X :=
    fun X => View.ld_unit_zero (S := S2048x1024) z2 _ X
  have l5 : ∀ X : Vec Ideal S1x2048 .f32, View.ld (Val := Elt Ideal) (e' := .f32) X r0_5 = X :=
    fun X => View.ld_unit_zero (S := S1x2048) z2 _ X
  have l6 : ∀ X : Vec Ideal S1024x2048 .f32, View.ld (Val := Elt Ideal) (e' := .f32) X r0_6 = X :=
    fun X => View.ld_unit_zero (S := S1024x2048) z2 _ X
  simp only [l0, l1, l2, l3, l4, l5, l6]

end Printed

end Cert.KernelIdeal.Tile

end
-- ==== Proof.TileRead.lean ====
/- The tiles of one grid point read at an index: each entry of the heads, the projections, the mask and the result as a
   sum, a softmax or a perceptron over plain rows. -/
module

public import proofs.«01_k».proof.Proof.Tile

@[expose] public section

noncomputable section

open scoped BigOperators

namespace Cert.KernelIdeal.Tile

open Cert.KernelIdeal Cert.KernelIdeal.Gen Cert.Layer
open Idealize.ShloMosaic Idealize.ShloMosaic.ValueIdx

/-! ## Tiles put together -/

section Stack

variable {α : Type} {n1 n2 n m : ℕ}

/-- Rows of the upper of two stacked tiles. -/
theorem stack_upper (x1 : (sh2 n1 m).Idx → α) (x2 : (sh2 n2 m).Idx → α)
    (h : Shape.Concatenates [sh2 n1 m, sh2 n2 m] (sh2 n m) 0) (r : Fin n) (c : Fin m) (r' : Fin n1) (hr : r'.val = r.val) :
    concatenate (sh2 n m) 0 [⟨sh2 n1 m, x1⟩, ⟨sh2 n2 m, x2⟩] h (ix2 r c) = x1 (ix2 r' c) :=
  concatenate_pair_apply_left (t := sh2 n m) (s₁ := sh2 n1 m) (s₂ := sh2 n2 m) 0 x1 x2 h (ix2 r c) rfl (ix2 r' c) fun a => by
    match a with
    | ⟨0, _⟩ => exact hr
    | ⟨1, _⟩ => rfl

/-- Rows of the lower of two stacked tiles. -/
theorem stack_lower (x1 : (sh2 n1 m).Idx → α) (x2 : (sh2 n2 m).Idx → α)
    (h : Shape.Concatenates [sh2 n1 m, sh2 n2 m] (sh2 n m) 0) (r : Fin n) (c : Fin m) (r' : Fin n2) (hr : r'.val + n1 = r.val) :
    concatenate (sh2 n m) 0 [⟨sh2 n1 m, x1⟩, ⟨sh2 n2 m, x2⟩] h (ix2 r c) = x2 (ix2 r' c) :=
  concatenate_pair_apply_right (t := sh2 n m) (s₁ := sh2 n1 m) (s₂ := sh2 n2 m) 0 x1 x2 h (ix2 r c) rfl rfl (ix2 r' c)
    (fun a ha => by
      match a with
      | ⟨0, _⟩ => exact absurd rfl ha
      | ⟨1, _⟩ => rfl) hr

/-- A block with a leading unit axis, seen without it. -/
theorem dropUnit_apply (x : (⟨3, ![1, n, m]⟩ : Shape).Idx → α) (h : (⟨3, ![1, n, m]⟩ : Shape).ShapeCasts (sh2 n m)) (r : Fin n) (c : Fin m) :
    shapeCast (sh2 n m) x h (ix2 r c) = x (ix3 0 r c) :=
  shapeCast_apply x h _ _ (by
    rw [Shape.rowMajor_val_two, Shape.rowMajor_val_three]
    show (0 * n + r.val) * m + c.val = r.val * m + c.val
    rw [Nat.zero_mul, Nat.zero_add])

/-- A tile given a leading unit axis. -/
theorem addUnit_apply (x : (sh2 n m).Idx → α) (h : (sh2 n m).ShapeCasts ⟨3, ![1, n, m]⟩) (z : Fin 1) (r : Fin n) (c : Fin m) :
    shapeCast ⟨3, ![1, n, m]⟩ x h (ix3 z r c) = x (ix2 r c) :=
  shapeCast_apply x h _ _ (by
    rw [Shape.rowMajor_val_two, Shape.rowMajor_val_three]
    have := z.isLt
    show r.val * m + c.val = (z.val * n + r.val) * m + c.val
    rw [show z.val = 0 by omega, Nat.zero_mul, Nat.zero_add])

end Stack

/-! ## The mask -/

/-- **The mask.** Window row `c` of half `s` is open to query row `r` when it is one of the 256 rows ending at `r` and
    lies in the sequence; elsewhere the mask is minus infinity. -/
theorem maskTile_apply (a : BitVec 32) (n : ℕ) (hn : n ≤ 4096) (ha : a = BitVec.ofNat 32 n) (r : Fin 256) (c : Fin 512) :
    maskTile a (ix2 r c) = if (r.val + 1 ≤ c.val ∧ c.val ≤ r.val + 256) ∧ 256 ≤ n + c.val then (0 : EReal) else ⊥ := by
  have hr := r.isLt; have hc := c.isLt
  have hb : ∀ (P Q R : Prop) [Decidable P] [Decidable Q] [Decidable R] (x y : EReal),
      Scalar.select (IntOp.andi (IntOp.andi (BitVec.ofBool (decide P)) (BitVec.ofBool (decide Q))) (BitVec.ofBool (decide R))) x y
        = if (P ∧ Q) ∧ R then x else y := by
    intro P Q R _ _ _ x y
    by_cases hP : P <;> by_cases hQ : Q <;> by_cases hR : R <;> simp [hP, hQ, hR, Scalar.select, IntOp.andi]
  have h1 : ∀ k : ℕ, k ≤ 8192 → (BitVec.ofNat 32 k).toInt = (k : ℤ) := fun k hk => by
    rw [BitVec.toInt_ofNat']; exact Int.bmod_eq_of_le (by omega) (by omega)
  unfold maskTile
  rw [select_apply]
  show Scalar.select (IntOp.andi (IntOp.andi (IntOp.cmpi .sge (iota .tc S256x512 32 [1] iota_S256x512_d1_w32 (ix2 r c)) (iota .tc S256x512 32 [0] iota_S256x512_d0_w32 (ix2 r c) + 1#32))
      (IntOp.cmpi .sle (iota .tc S256x512 32 [1] iota_S256x512_d1_w32 (ix2 r c)) (iota .tc S256x512 32 [0] iota_S256x512_d0_w32 (ix2 r c) + 256#32)))
      (IntOp.cmpi .sge ((a - 256#32) + iota .tc S256x512 32 [1] iota_S256x512_d1_w32 (ix2 r c)) 0#32))
    (Ideal.ofBits .f32 0x00000000#32) (Named.named (F := Ideal) κ "mask" 0xF149F2CA#32) = _
  rw [iota_single_apply, iota_single_apply, WordCmp.cmpi_sge_eq, WordCmp.cmpi_sge_eq, WordCmp.cmpi_sle_eq, hb, IdealRules.named_const.ideal_named_scalar _ _ _ _ rfl]
  rw [ofBits_zero]
  refine if_congr ?_ rfl rfl
  show (((BitVec.ofNat 32 r.val + BitVec.ofNat 32 1).toInt ≤ (BitVec.ofNat 32 c.val).toInt ∧
    (BitVec.ofNat 32 c.val).toInt ≤ (BitVec.ofNat 32 r.val + BitVec.ofNat 32 256).toInt) ∧ (BitVec.ofNat 32 0).toInt ≤ (a - 256#32 + BitVec.ofNat 32 c.val).toInt) ↔ _
  have h2 : (a - 256#32 + BitVec.ofNat 32 c.val).toInt = (n : ℤ) - 256 + c.val := by
    rw [ha]
    have : BitVec.ofNat 32 n - 256#32 + BitVec.ofNat 32 c.val = BitVec.ofInt 32 ((n : ℤ) - 256 + c.val) := by
      apply BitVec.eq_of_toInt_eq
      rw [BitVec.toInt_add, BitVec.toInt_sub, BitVec.toInt_ofInt, h1 n (by omega), h1 c.val (by omega)]
      show ((((n : ℤ) - 256).bmod (2 ^ 32)) + c.val).bmod (2 ^ 32) = _
      rw [Int.bmod_add_bmod]
    rw [this, BitVec.toInt_ofInt]; exact Int.bmod_eq_of_le (by omega) (by omega)
  rw [h2, ← BitVec.ofNat_add, ← BitVec.ofNat_add, h1 _ (by omega), h1 _ (by omega), h1 _ (by omega), h1 _ (by omega)]
  omega

/-! ## The heads -/

/-- Row `r` of half `s` of a tile of 512 rows. -/
def halfRow (s : Fin 2) (r : Fin 256) : Fin 512 := ⟨256 * s.val + r.val, by have := s.isLt; have := r.isLt; omega⟩

/-- Row `c` of the window of half `s`. -/
def winRow (s : Fin 2) (c : Fin 512) : Fin 768 := ⟨256 * s.val + c.val, by have := s.isLt; have := c.isLt; omega⟩

/-- A column is its place in its head. -/
theorem hcol_headOf (e : Fin 1024) : hcol (headOf e) (laneOf e) = e := Fin.ext (by
  show 64 * (e.val / 64) + e.val % 64 = e.val
  omega)

/-- One head at an index. -/
theorem head_apply (q : FVec Ideal S512x1024 .f32) (k v : FVec Ideal S768x1024 .f32) (mask : FVec Ideal S256x512 .f32)
    (s : Fin 2) (h : Fin 16) (r : Fin 256) (l : Fin 64) :
    head q k v mask s h (ix2 r l)
      = windowAttend (fun c : Fin 512 => (∑ d : Fin 64, q (ix2 (halfRow s r) (hcol h d)) * k (ix2 (winRow s c) (hcol h d))) + mask (ix2 r c))
          (fun c => v (ix2 (winRow s c) (hcol h l))) := by
  have hq : ∀ d : Fin 64, extractStridedSlice S256x64 ![256 * s.val, 64 * h.val] q (cutsQ s h) (ix2 r d) = q (ix2 (halfRow s r) (hcol h d)) :=
    fun d => cut_apply _ _ q (cutsQ s h) r d _ _ rfl rfl
  have hk : ∀ (x : FVec Ideal S768x1024 .f32) (c : Fin 512) (d : Fin 64),
      extractStridedSlice S512x64 ![256 * s.val, 64 * h.val] x (cutsK s h) (ix2 c d) = x (ix2 (winRow s c) (hcol h d)) :=
    fun x c d => cut_apply _ _ x (cutsK s h) c d _ _ rfl rfl
  refine (headTile_apply (n := 256) (m := 512) (d := 64) _ _ rfl rfl _ _ _ mask _ _ _ _ r l).trans ?_
  simp only [hq, hk]

/-- The heads of a half at an index. -/
theorem heads_apply (q : FVec Ideal S512x1024 .f32) (k v : FVec Ideal S768x1024 .f32) (mask : FVec Ideal S256x512 .f32)
    (s : Fin 2) (r : Fin 256) (e : Fin 1024) :
    heads q k v mask s (ix2 r e)
      = windowAttend (fun c : Fin 512 => (∑ d : Fin 64, q (ix2 (halfRow s r) (hcol (headOf e) d)) * k (ix2 (winRow s c) (hcol (headOf e) d))) + mask (ix2 r c))
          (fun c => v (ix2 (winRow s c) e)) := by
  have h1 : heads q k v mask s (ix2 r e) = head q k v mask s (headOf e) (ix2 r (laneOf e)) :=
    concatenate_ofFn_apply (t := S256x1024) (s₁ := S256x64) 1 (fun h : Fin 16 => head q k v mask s h) _ rfl 64 rfl (ix2 r e) (headOf e) rfl
      (ix2 r (laneOf e)) rfl fun b hb => by
        match b with
        | ⟨0, _⟩ => rfl
        | ⟨1, _⟩ => exact absurd rfl hb
  rw [h1, head_apply, hcol_headOf]

/-- The attention half of the block at an index. -/
theorem midTile_apply (x q : FVec Ideal S512x1024 .f32) (k v : FVec Ideal S768x1024 .f32) (mask : Fin 2 → FVec Ideal S256x512 .f32)
    (wo : FVec Ideal S1024x1024 .f32) (s : Fin 2) (r : Fin 256) (j : Fin 1024) :
    midTile x q k v (mask 0) (mask 1) wo (ix2 (halfRow s r) j)
      = (∑ e : Fin 1024, heads q k v (mask s) s (ix2 r e) * wo (ix2 j e)) + x (ix2 (halfRow s r) j) := by
  unfold midTile
  rw [addf_apply]
  refine congrArg₂ (· + ·) ((mulT_apply (n := 512) (k := 1024) (m := 1024) _ rfl _ wo (halfRow s r) j).trans ?_) rfl
  refine Finset.sum_congr rfl fun e _ => congrArg (· * wo (ix2 j e)) ?_
  match s with
  | ⟨0, _⟩ => exact stack_upper (n1 := 256) (n2 := 256) (n := 512) (m := 1024) _ _ _ _ e r (by show r.val = 256 * 0 + r.val; omega)
  | ⟨1, _⟩ => exact stack_lower (n1 := 256) (n2 := 256) (n := 512) (m := 1024) _ _ _ _ e r (by show r.val + 256 = 256 * 1 + r.val; omega)

/-! ## Projections and the perceptron -/

/-- The scaled query projection at an index. -/
theorem queryTile_apply (xn : FVec Ideal S768x1024 .f32) (wq : FVec Ideal S1024x1024 .f32) (ρ : Fin 512) (e : Fin 1024) (ρ' : Fin 768)
    (h : ρ'.val = 256 + ρ.val) :
    queryTile xn wq (ix2 ρ e) = proj (fun e k => wq (ix2 e k)) (fun k => xn (ix2 ρ' k)) e * (((Real.log 2)⁻¹ * (1 / 8) : ℝ) : EReal) := by
  unfold queryTile
  rw [mulf_apply]
  refine congrArg₂ (· * ·) ((mulT_apply (n := 512) (k := 1024) (m := 1024) _ rfl _ wq ρ e).trans ?_)
    (IdealRules.named_const.ideal_named_scalar _ _ _ _ rfl)
  exact Finset.sum_congr rfl fun k _ => congrArg (· * wq (ix2 e k)) (cut_apply 256 0 xn _ ρ k ρ' k h (Nat.zero_add _).symm)

/-- A projection at an index. -/
theorem keyTile_apply (xn : FVec Ideal S768x1024 .f32) (w : FVec Ideal S1024x1024 .f32) (ρ : Fin 768) (e : Fin 1024) :
    keyTile xn w (ix2 ρ e) = proj (fun e k => w (ix2 e k)) (fun k => xn (ix2 ρ k)) e :=
  mulT_apply (n := 768) (k := 1024) (m := 1024) _ rfl xn w ρ e

/-- The perceptron at an index. -/
theorem mlpTile_apply (g b : FVec Ideal S1024 .f32) (w1 : FVec Ideal S2048x1024 .f32) (b1 : FVec Ideal S1x2048 .f32)
    (w2 : FVec Ideal S1024x2048 .f32) (b2 : FVec Ideal S1x1024 .f32) (y : FVec Ideal S512x1024 .f32) (ρ : Fin 512) (j : Fin 1024) :
    mlpTile g b w1 b1 w2 b2 y (ix2 ρ j)
      = mlp (fun k => g (ix1 k)) (fun k => b (ix1 k)) (fun f k => w1 (ix2 f k)) (fun f => b1 (ix2 0 f)) (fun j f => w2 (ix2 j f))
          (fun j => b2 (ix2 0 j)) (fun k => y (ix2 ρ k)) j := by
  unfold mlpTile mlp
  rw [addf_apply, addf_apply]
  refine congrArg₂ (· + ·) (congrArg₂ (· + ·) ((mulT_apply (n := 512) (k := 2048) (m := 1024) _ rfl _ w2 ρ j).trans ?_) ?_) rfl
  · refine Finset.sum_congr rfl fun f _ => congrArg (· * w2 (ix2 j f)) ?_
    refine Eq.trans ?_ (gelu_eq _)
    have hh : addf (matmul dot_S512x1024_S2048x1024_S512x2048_1_1_0_0_n_n none
          (normRows y g b reduces_S512x1024_S512 shapeCasts_S512_S512x1 broadcasts_S512x1_S512x1024 shapeCasts_S1024_S1x1024 broadcasts_S1x1024_S512x1024)
          w1 (constant S512x2048 .f32 0x00000000#32))
        (broadcastTo S512x2048 (shapeCast S1x2048 (shapeCast S2048 b1 shapeCasts_S1x2048_S2048) shapeCasts_S2048_S1x2048) broadcasts_S1x2048_S512x2048) (ix2 ρ f)
        = proj (fun f k => w1 (ix2 f k)) (norm (fun k => g (ix1 k)) (fun k => b (ix1 k)) fun k => y (ix2 ρ k)) f + b1 (ix2 0 f) := by
      rw [addf_apply]
      refine congrArg₂ (· + ·) ((mulT_apply (n := 512) (k := 1024) (m := 2048) _ rfl _ w1 ρ f).trans ?_) ?_
      · exact Finset.sum_congr rfl fun k _ => congrArg (· * w1 (ix2 f k)) (normRows_apply y g b _ _ _ _ _ ρ k)
      · exact (bcRow_apply _ _ ρ f).trans ((toRow_apply _ _ 0 f).trans (ofRow_apply b1 _ f))
    rw [← hh]
    show _ * Ideal.ofBits .f32 0x3F000000#32 * (Ideal.ofBits .f32 0x3F800000#32 + Ideal.erf (_ * (((Real.sqrt 2)⁻¹ : ℝ) : EReal))) = _
    rw [ofBits_one]
    rfl
  · exact (bcRow_apply _ _ ρ j).trans ((toRow_apply _ _ 0 j).trans (ofRow_apply b2 _ j))

end Cert.KernelIdeal.Tile

end
-- ==== Proof.Block.lean ====
/- What one grid point computes, in the words of the layer: each row of the block's result is the layer's row at that
   place of the sequence. The halo supplies the keys of the 256 rows before the block. -/
module

public import proofs.«01_k».proof.Proof.TileRead
public import proofs.«01_k».proof.Proof.Softmax

@[expose] public section

noncomputable section

open scoped BigOperators

namespace Cert.KernelIdeal.Tile

open Cert.KernelIdeal Cert.KernelIdeal.Gen Cert.Layer
open Idealize.ShloMosaic Idealize.ShloMosaic.ValueIdx

/-- The place in the sequence of row `ρ` of block `i`. -/
def blockRow (i : Fin 4) (ρ : Fin 512) : Fin 2048 := ⟨512 * i.val + ρ.val, by have := i.isLt; have := ρ.isLt; omega⟩

/-- The place in the sequence of row `ρ` of the halo of block `i`: the 256 rows before the block, for the first block its own first rows. -/
def haloRow (i : Fin 4) (ρ : Fin 256) : Fin 2048 := ⟨256 * (2 * i.val - 1) + ρ.val, by have := i.isLt; have := ρ.isLt; omega⟩

/-- The place in the sequence of row `ρ` of the halo and the block together. -/
def extRow (i : Fin 4) (ρ : Fin 768) : Fin 2048 :=
  ⟨if ρ.val < 256 then 256 * (2 * i.val - 1) + ρ.val else 512 * i.val + ρ.val - 256, by
    have := i.isLt; have := ρ.isLt; split <;> omega⟩

/-- A place of the window that is open to row `r` of half `s` of block `i`. -/
def Open (i : Fin 4) (s : Fin 2) (r : Fin 256) (c : Fin 512) : Prop :=
  (r.val + 1 ≤ c.val ∧ c.val ≤ r.val + 256) ∧ 256 ≤ (512 * i.val + 256 * s.val) + c.val

instance (i : Fin 4) (s : Fin 2) (r : Fin 256) (c : Fin 512) : Decidable (Open i s r c) := inferInstanceAs (Decidable (_ ∧ _))

/-- The sequence row behind an open place. -/
theorem extRow_open {i : Fin 4} {s : Fin 2} {r : Fin 256} {c : Fin 512} (h : Open i s r c) :
    (extRow i (winRow s c)).val + 256 = 512 * i.val + 256 * s.val + c.val := by
  obtain ⟨⟨h1, h2⟩, h3⟩ := h
  have := i.isLt; have := s.isLt; have := r.isLt; have := c.isLt
  show (if 256 * s.val + c.val < 256 then 256 * (2 * i.val - 1) + (256 * s.val + c.val) else 512 * i.val + (256 * s.val + c.val) - 256) + 256 = _
  split <;> omega

/-- **The heads of one half are the layer's attention.** -/
theorem heads_eq (Q K V : Fin 2048 → Fin 1024 → EReal) (hQ : ∀ t e, IsReal (Q t e)) (hK : ∀ t e, IsReal (K t e)) (i : Fin 4)
    (qt : FVec Ideal S512x1024 .f32) (kt vt : FVec Ideal S768x1024 .f32) (mask : FVec Ideal S256x512 .f32)
    (hq : ∀ ρ e, qt (ix2 ρ e) = Q (blockRow i ρ) e * (((Real.log 2)⁻¹ * (1 / 8) : ℝ) : EReal))
    (hk : ∀ ρ e, kt (ix2 ρ e) = K (extRow i ρ) e) (hv : ∀ ρ e, vt (ix2 ρ e) = V (extRow i ρ) e)
    (s : Fin 2) (r : Fin 256) (hm : ∀ c, mask (ix2 r c) = if Open i s r c then (0 : EReal) else ⊥) (e : Fin 1024) :
    heads qt kt vt mask s (ix2 r e) = attend Q K V (blockRow i (halfRow s r)) e := by
  choose Qr hQr using hQ
  choose Kr hKr using hK
  have hi := i.isLt; have hs := s.isLt; have hr := r.isLt
  have ht : (blockRow i (halfRow s r)).val = 512 * i.val + (256 * s.val + r.val) := rfl
  have hlog : ∀ c : Fin 512, (∑ d : Fin 64, qt (ix2 (halfRow s r) (hcol (headOf e) d)) * kt (ix2 (winRow s c) (hcol (headOf e) d)))
      = (((Real.log 2)⁻¹ * ((∑ d : Fin 64, Qr (blockRow i (halfRow s r)) (hcol (headOf e) d) * Kr (extRow i (winRow s c)) (hcol (headOf e) d)) * (1 / 8)) : ℝ) : EReal) := by
    intro c
    rw [Finset.sum_mul, Finset.mul_sum, ← coe_sum]
    refine Finset.sum_congr rfl fun d _ => ?_
    rw [hq, hk, hQr, hKr, ← EReal.coe_mul, ← EReal.coe_mul]
    exact congrArg _ (by ring)
  rw [heads_apply]
  unfold attend
  refine windowAttend_eq (fun c => extRow i (winRow s c)) (Open i s r) (InBand (blockRow i (halfRow s r))) ?_ ?_ ?_
    (blockRow i (halfRow s r)) ⟨le_refl _, by omega⟩
    (fun p => (∑ d : Fin 64, Qr (blockRow i (halfRow s r)) (hcol (headOf e) d) * Kr p (hcol (headOf e) d)) * (1 / 8)) _ _ _ (fun p => V p e) ?_ ?_ ?_ ?_ ?_
  · intro c hc
    have h1 := extRow_open hc
    obtain ⟨⟨h2, h3⟩, h4⟩ := hc
    constructor <;> omega
  · intro c c' hc hc' h
    have h1 := extRow_open hc; have h2 := extRow_open hc'
    have h3 : (extRow i (winRow s c)).val = (extRow i (winRow s c')).val := congrArg Fin.val h
    exact Fin.ext (by omega)
  · intro p hp
    obtain ⟨h1, h2⟩ := hp
    have hp := p.isLt
    have ho : Open i s r ⟨p.val + 256 - (512 * i.val + 256 * s.val), by omega⟩ := by
      refine ⟨⟨?_, ?_⟩, ?_⟩
      · show r.val + 1 ≤ p.val + 256 - (512 * i.val + 256 * s.val); omega
      · show p.val + 256 - (512 * i.val + 256 * s.val) ≤ r.val + 256; omega
      · show 256 ≤ (512 * i.val + 256 * s.val) + (p.val + 256 - (512 * i.val + 256 * s.val)); omega
    refine ⟨_, ho, Fin.ext ?_⟩
    have h3 := extRow_open ho
    have h4 : (extRow i (winRow s ⟨p.val + 256 - (512 * i.val + 256 * s.val), by omega⟩)).val + 256
      = 512 * i.val + 256 * s.val + (p.val + 256 - (512 * i.val + 256 * s.val)) := h3
    show (extRow i (winRow s ⟨p.val + 256 - (512 * i.val + 256 * s.val), by omega⟩)).val = p.val
    omega
  · intro c hc
    show (∑ d : Fin 64, _) + mask (ix2 r c) = _
    rw [hm, if_pos hc, hlog, add_zero]
  · intro c hc
    show (∑ d : Fin 64, _) + mask (ix2 r c) = _
    rw [hm, if_neg hc, EReal.add_bot]
  · intro p hp
    unfold banded score
    rw [if_pos hp, EReal.coe_mul, ← coe_sum]
    refine congrArg (· * _) (Finset.sum_congr rfl fun d _ => ?_)
    rw [hQr, hKr, ← EReal.coe_mul]
  · intro p hp
    unfold banded
    rw [if_neg hp]
  · intro c _
    exact hv _ _

section Whole

variable (i : grid0.Coords) (n : Fin 4) (x0 : FVec Ideal S1x512x1024 .f32) (x1 : FVec Ideal S1x256x1024 .f32) (x2 x3 : FVec Ideal S1x1024 .f32)
  (x4 x5 x6 x7 : FVec Ideal S1024x1024 .f32) (x8 : FVec Ideal S2048x1024 .f32) (x9 : FVec Ideal S1x2048 .f32)
  (x10 : FVec Ideal S1024x2048 .f32) (x11 : FVec Ideal S1x1024 .f32) (q : Fin 2048 → Fin 1024 → EReal)
  (h0 : ∀ ρ k, x0 (ix3 0 ρ k) = q (blockRow n ρ) k) (h1 : ∀ ρ k, x1 (ix3 0 ρ k) = q (haloRow n ρ) k)

include h0 h1

/-- The normalized rows at an index: the layer's normalized rows at the places of the halo and the block. -/
theorem normTile_eq (ρ : Fin 768) (k : Fin 1024) :
    normTile x0 x1 x2 x3 (ix2 ρ k) = norm (fun k => x2 (ix2 0 k)) (fun k => x3 (ix2 0 k)) (q (extRow n ρ)) k := by
  have hx : ∀ k : Fin 1024, concatenate S768x1024 0 [⟨S256x1024, shapeCast S256x1024 x1 shapeCasts_S1x256x1024_S256x1024⟩,
      ⟨S512x1024, shapeCast S512x1024 x0 shapeCasts_S1x512x1024_S512x1024⟩] concatenates_S256x1024_S512x1024_S768x1024_d0 (ix2 ρ k)
      = q (extRow n ρ) k := by
    intro k
    have hρ := ρ.isLt
    by_cases h : ρ.val < 256
    · refine (stack_upper (n1 := 256) (n2 := 512) (n := 768) (m := 1024) _ _ _ ρ k ⟨ρ.val, h⟩ rfl).trans ?_
      refine (dropUnit_apply (n := 256) (m := 1024) x1 _ _ k).trans ?_
      rw [h1]
      refine congrArg (fun t => q t k) (Fin.ext ?_)
      show 256 * (2 * n.val - 1) + ρ.val = if ρ.val < 256 then 256 * (2 * n.val - 1) + ρ.val else 512 * n.val + ρ.val - 256
      rw [if_pos h]
    · refine (stack_lower (n1 := 256) (n2 := 512) (n := 768) (m := 1024) _ _ _ ρ k ⟨ρ.val - 256, by omega⟩ (by show ρ.val - 256 + 256 = _; omega)).trans ?_
      refine (dropUnit_apply (n := 512) (m := 1024) x0 _ _ k).trans ?_
      rw [h0]
      refine congrArg (fun t => q t k) (Fin.ext ?_)
      show 512 * n.val + (ρ.val - 256) = if ρ.val < 256 then 256 * (2 * n.val - 1) + ρ.val else 512 * n.val + ρ.val - 256
      rw [if_neg h]; omega
  unfold normTile
  refine (normRows_apply (n := 768) _ _ _ _ _ _ _ _ ρ k).trans ?_
  have e1 : ∀ (y : FVec Ideal S1x1024 .f32), (fun k : Fin 1024 => shapeCast S1024 y shapeCasts_S1x1024_S1024 (ix1 k)) = fun k => y (ix2 0 k) :=
    fun y => funext fun k => ofRow_apply y _ k
  exact congrArg (fun f => f k) (congr (congrArg₂ norm (e1 x2) (e1 x3)) (funext hx))

/-- **One grid point computes the layer's rows.** With the block's rows and its halo's rows taken from the sequence `q`, and
    `n` the block's number along the sequence, the sequence, the scale and shift, and the query and key matrices finite, row `ρ` of the block's result is the layer's
    row at that place. -/
theorem outTile_eq (hn : n.val = (i 1).val) (hq : ∀ t k, IsReal (q t k)) (hg : ∀ k, IsReal (x2 (ix2 0 k))) (hb : ∀ k, IsReal (x3 (ix2 0 k)))
    (hwq : ∀ e k, IsReal (x4 (ix2 e k))) (hwk : ∀ e k, IsReal (x5 (ix2 e k))) (ρ : Fin 512) (j : Fin 1024) :
    outTile i x0 x1 x2 x3 x4 x5 x6 x7 x8 x9 x10 x11 (ix2 ρ j)
      = mlp (fun k => x2 (ix2 0 k)) (fun k => x3 (ix2 0 k)) (fun f k => x8 (ix2 f k)) (fun f => x9 (ix2 0 f)) (fun j f => x10 (ix2 j f))
          (fun j => x11 (ix2 0 j)) (mid (fun k => x2 (ix2 0 k)) (fun k => x3 (ix2 0 k)) (fun e k => x4 (ix2 e k)) (fun e k => x5 (ix2 e k))
            (fun e k => x6 (ix2 e k)) (fun e k => x7 (ix2 e k)) q (blockRow n ρ)) j := by
  have e1 : ∀ (y : FVec Ideal S1x1024 .f32), (fun k : Fin 1024 => shapeCast S1024 y shapeCasts_S1x1024_S1024 (ix1 k)) = fun k => y (ix2 0 k) :=
    fun y => funext fun k => ofRow_apply y _ k
  have hN : ∀ t k, IsReal (norm (fun k => x2 (ix2 0 k)) (fun k => x3 (ix2 0 k)) (q t) k) := fun t k => fin_norm hg hb (hq t) k
  have hxn := normTile_eq n x0 x1 x2 x3 q h0 h1
  have hkt : ∀ (w : FVec Ideal S1024x1024 .f32) (ρ : Fin 768) (e : Fin 1024), keyTile (normTile x0 x1 x2 x3) w (ix2 ρ e)
      = proj (fun e k => w (ix2 e k)) (norm (fun k => x2 (ix2 0 k)) (fun k => x3 (ix2 0 k)) (q (extRow n ρ))) e := fun w ρ e => by
    rw [keyTile_apply]; exact congrArg (fun f => proj _ f e) (funext (hxn ρ))
  have hqt : ∀ (ρ : Fin 512) (e : Fin 1024), queryTile (normTile x0 x1 x2 x3) x4 (ix2 ρ e)
      = proj (fun e k => x4 (ix2 e k)) (norm (fun k => x2 (ix2 0 k)) (fun k => x3 (ix2 0 k)) (q (blockRow n ρ))) e * (((Real.log 2)⁻¹ * (1 / 8) : ℝ) : EReal) := fun ρ e => by
    rw [queryTile_apply _ _ ρ e ⟨256 + ρ.val, by have := ρ.isLt; omega⟩ rfl]
    refine congrArg (fun f => proj _ f e * _) (funext fun k => (hxn _ k).trans (congrArg (fun t => norm _ _ (q t) k) (Fin.ext ?_)))
    show (if 256 + ρ.val < 256 then 256 * (2 * n.val - 1) + (256 + ρ.val) else 512 * n.val + (256 + ρ.val) - 256) = 512 * n.val + ρ.val
    rw [if_neg (by omega)]; omega
  have hi := n.isLt
  have hf : ∀ s : Fin 2, Scalar.addi (firstRow i) (BitVec.ofNat 32 (256 * s.val)) = BitVec.ofNat 32 (512 * n.val + 256 * s.val) := fun s => by
    show BitVec.ofNat 32 (i 1).val * BitVec.ofNat 32 512 + _ = _
    rw [← hn, ← BitVec.ofNat_mul, ← BitVec.ofNat_add, mul_comm]
  have hm : ∀ (s : Fin 2) (r : Fin 256) (c : Fin 512), maskTile (Scalar.addi (firstRow i) (BitVec.ofNat 32 (256 * s.val))) (ix2 r c)
      = if Open n s r c then (0 : EReal) else ⊥ := fun s r c => by
    have hs := s.isLt
    exact maskTile_apply _ (512 * n.val + 256 * s.val) (by omega) (hf s) r c
  unfold outTile
  rw [mlpTile_apply, e1, e1]
  refine congrArg (fun y => mlp _ _ _ _ _ _ y j) (funext fun k => ?_)
  -- the half the row is in, and its place there
  obtain ⟨s, r, rfl⟩ : ∃ s r, ρ = halfRow s r := by
    have hρ := ρ.isLt
    exact ⟨⟨ρ.val / 256, by omega⟩, ⟨ρ.val % 256, Nat.mod_lt _ (by decide)⟩, Fin.ext (by show ρ.val = 256 * (ρ.val / 256) + ρ.val % 256; omega)⟩
  refine (midTile_apply _ _ _ _ (fun s => maskTile (Scalar.addi (firstRow i) (BitVec.ofNat 32 (256 * s.val)))) x7 s r k).trans ?_
  unfold mid
  refine congrArg₂ (· + ·) (Finset.sum_congr rfl fun e _ => congrArg (· * x7 (ix2 k e)) ?_) ?_
  · exact heads_eq _ _ _ (fun t e => fin_proj hwq (hN t) e) (fun t e => fin_proj hwk (hN t) e) n _ _ _ _ hqt (hkt x5) (hkt x6) s r (hm s r) e
  · exact (dropUnit_apply (n := 512) (m := 1024) x0 _ _ k).trans (h0 _ _)

end Whole

end Cert.KernelIdeal.Tile

end
-- ==== Proof.Result.lean ====
/- The layer's result as an array of its eleven argument arrays. -/
module

public import proofs.«01_k».proof.Proof.Spec
public import Idealize.ShloMosaic.Lib.ValueIdx

@[expose] public section

noncomputable section

namespace Cert.Layer

open Idealize.ShloMosaic Idealize.ShloMosaic.ValueIdx

/-- A vector's entries. -/
def vec {n : ℕ} (x : FVec Ideal ⟨1, ![n]⟩ .f32) (k : Fin n) : EReal := x (ix1 k)

/-- A matrix's entries. -/
def mat {n m : ℕ} (x : FVec Ideal ⟨2, ![n, m]⟩ .f32) (e : Fin n) (k : Fin m) : EReal := x (ix2 e k)

/-- The rows of one sequence of a batch. -/
def seq {b n m : ℕ} (x : FVec Ideal ⟨3, ![b, n, m]⟩ .f32) (z : Fin b) (t : Fin n) (k : Fin m) : EReal := x (ix3 z t k)

/-- **The layer**: the whole result array, from the input, the scale and shift of the normalization, the four attention
    matrices, and the perceptron's two matrices and biases. -/
def layerOut (x : FVec Ideal ⟨3, ![2, 2048, 1024]⟩ .f32) (g b : FVec Ideal ⟨1, ![1024]⟩ .f32)
    (wq wk wv wo : FVec Ideal ⟨2, ![1024, 1024]⟩ .f32) (w1 : FVec Ideal ⟨2, ![2048, 1024]⟩ .f32) (b1 : FVec Ideal ⟨1, ![2048]⟩ .f32)
    (w2 : FVec Ideal ⟨2, ![1024, 2048]⟩ .f32) (b2 : FVec Ideal ⟨1, ![1024]⟩ .f32) : FVec Ideal ⟨3, ![2, 2048, 1024]⟩ .f32 :=
  fun i => mlp (vec g) (vec b) (mat w1) (vec b1) (mat w2) (vec b2)
    (mid (vec g) (vec b) (mat wq) (mat wk) (mat wv) (mat wo) (seq x (i 0)) (i 1)) (i 2)

end Cert.Layer

end
-- ==== Proof.Array.lean ====
/- What the kernel's result array holds after a run: every grid point writes its own block of the layer's result, and the
   blocks cover the array. -/
module

public import proofs.«01_k».proof.Proof.Block
public import proofs.«01_k».proof.Proof.Result
public import Idealize.ShloMosaic.Lib.Claim

@[expose] public section

noncomputable section

open scoped BigOperators

namespace Cert.KernelIdeal.Array

open Cert.KernelIdeal Cert.KernelIdeal.Gen Cert.KernelIdeal.Tile Cert.KernelIdeal.Value Cert.Layer
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The layer's result on the arguments of device `c`. -/
def result : FVec Ideal S2x2048x1024 .f32 :=
  layerOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-! ## The blocks' places -/

/-- The block of the result at a grid point. -/
theorem place12 : ∀ t : Fin grid0.N, win0_12.index t 0 = (grid0.coords t 0).val ∧ win0_12.index t 1 = (grid0.coords t 1).val ∧ win0_12.index t 2 = 0 := by
  decide +kernel

/-- The block of the input at a grid point. -/
theorem place0 : ∀ t : Fin grid0.N, win0_0.index t 0 = (grid0.coords t 0).val ∧ win0_0.index t 1 = (grid0.coords t 1).val ∧ win0_0.index t 2 = 0 := by
  decide +kernel

/-- The halo of the input at a grid point: the 256 rows before the block, for the first block the first rows. -/
theorem place1 : ∀ t : Fin grid0.N, win0_1.index t 0 = (grid0.coords t 0).val ∧ win0_1.index t 1 = 2 * (grid0.coords t 1).val - 1 ∧ win0_1.index t 2 = 0 := by
  decide +kernel

/-- A window that stages a whole matrix stands at its origin. -/
theorem origin : ∀ t : Fin grid0.N, (∀ a, win0_2.index t a = 0) ∧ (∀ a, win0_3.index t a = 0) ∧ (∀ a, win0_4.index t a = 0) ∧ (∀ a, win0_5.index t a = 0)
    ∧ (∀ a, win0_6.index t a = 0) ∧ (∀ a, win0_7.index t a = 0) ∧ (∀ a, win0_8.index t a = 0) ∧ (∀ a, win0_9.index t a = 0)
    ∧ (∀ a, win0_10.index t a = 0) ∧ (∀ a, win0_11.index t a = 0) := by
  decide +kernel

/-! ## The input blocks -/

/-- The block's rows. -/
theorem block0 (t : Fin cfg0.N) (n : Fin 4) (hn : n.val = (grid0.coords t 1).val) (z : Fin 2) (hz : z.val = (grid0.coords t 0).val) (ρ : Fin 512) (k : Fin 1024) :
    iblk m c 0 t (ix3 0 ρ k) = seq (m ((c : Thread nD τ).loc main_arg0)) z (blockRow n ρ) k := by
  obtain ⟨h0, h1, h2⟩ := place0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = z.val; omega
  | ⟨1, _⟩ => show win0_0.index t 1 * 512 + 1 * ρ.val = 512 * n.val + ρ.val; omega
  | ⟨2, _⟩ => show win0_0.index t 2 * 1024 + 1 * k.val = k.val; omega

/-- The halo's rows. -/
theorem block1 (t : Fin cfg0.N) (n : Fin 4) (hn : n.val = (grid0.coords t 1).val) (z : Fin 2) (hz : z.val = (grid0.coords t 0).val) (ρ : Fin 256) (k : Fin 1024) :
    iblk m c 1 t (ix3 0 ρ k) = seq (m ((c : Thread nD τ).loc main_arg0)) z (haloRow n ρ) k := by
  obtain ⟨h0, h1, h2⟩ := place1 t
  unfold iblk
  rw [View.read_apply]
  show V m c main_arg0 _ = m (c.tc.loc main_arg0) _
  rw [V_main_arg0]
  congr 1
  funext a
  apply Fin.ext
  match a with
  | ⟨0, _⟩ => show win0_1.index t 0 * 1 + 1 * 0 = z.val; omega
  | ⟨1, _⟩ => show win0_1.index t 1 * 256 + 1 * ρ.val = 256 * (2 * n.val - 1) + ρ.val; rw [h1, hn]; omega
  | ⟨2, _⟩ => show win0_1.index t 2 * 1024 + 1 * k.val = k.val; omega

/-- A window that stands at its origin holds its whole array. -/
theorem wholeBlock (w : Fin cfg0.W) (t : Fin cfg0.N) (h : ∀ a, (cfg0.win w).index t a = 0) (y : ((cfg0.win w).xblock (cfg0.grid.coords t)).Idx)
    (a : Fin (cfg0.win w).shape.rank) : (((cfg0.win w).rect t).emb y a : ℕ) = y a :=
  Pipeline.Window.rect_emb_val_of_index_zero (cfg0.win w) t a (h a) y

/-- The query matrix. -/
theorem block4 (t : Fin cfg0.N) : (iblk m c 4 t : Vec Ideal S1024x1024 .f32) = m ((c : Thread nD τ).loc main_arg3) := by
  funext j
  unfold iblk
  rw [View.read_apply]
  show V m c main_arg3 _ = m (c.tc.loc main_arg3) _
  rw [V_main_arg3]
  exact congrArg _ (funext fun a => Fin.ext (wholeBlock 4 t (origin t).2.2.1 j a))

/-- The key matrix. -/
theorem block5 (t : Fin cfg0.N) : (iblk m c 5 t : Vec Ideal S1024x1024 .f32) = m ((c : Thread nD τ).loc main_arg4) := by
  funext j
  unfold iblk
  rw [View.read_apply]
  show V m c main_arg4 _ = m (c.tc.loc main_arg4) _
  rw [V_main_arg4]
  exact congrArg _ (funext fun a => Fin.ext (wholeBlock 5 t (origin t).2.2.2.1 j a))

/-- The value matrix. -/
theorem block6 (t : Fin cfg0.N) : (iblk m c 6 t : Vec Ideal S1024x1024 .f32) = m ((c : Thread nD τ).loc main_arg5) := by
  funext j
  unfold iblk
  rw [View.read_apply]
  show V m c main_arg5 _ = m (c.tc.loc main_arg5) _
  rw [V_main_arg5]
  exact congrArg _ (funext fun a => Fin.ext (wholeBlock 6 t (origin t).2.2.2.2.1 j a))

/-- The output matrix. -/
theorem block7 (t : Fin cfg0.N) : (iblk m c 7 t : Vec Ideal S1024x1024 .f32) = m ((c : Thread nD τ).loc main_arg6) := by
  funext j
  unfold iblk
  rw [View.read_apply]
  show V m c main_arg6 _ = m (c.tc.loc main_arg6) _
  rw [V_main_arg6]
  exact congrArg _ (funext fun a => Fin.ext (wholeBlock 7 t (origin t).2.2.2.2.2.1 j a))

/-- The perceptron's first matrix. -/
theorem block8 (t : Fin cfg0.N) : (iblk m c 8 t : Vec Ideal S2048x1024 .f32) = m ((c : Thread nD τ).loc main_arg7) := by
  funext j
  unfold iblk
  rw [View.read_apply]
  show V m c main_arg7 _ = m (c.tc.loc main_arg7) _
  rw [V_main_arg7]
  exact congrArg _ (funext fun a => Fin.ext (wholeBlock 8 t (origin t).2.2.2.2.2.2.1 j a))

/-- The perceptron's second matrix. -/
theorem block10 (t : Fin cfg0.N) : (iblk m c 10 t : Vec Ideal S1024x2048 .f32) = m ((c : Thread nD τ).loc main_arg9) := by
  funext j
  unfold iblk
  rw [View.read_apply]
  show V m c main_arg9 _ = m (c.tc.loc main_arg9) _
  rw [V_main_arg9]
  exact congrArg _ (funext fun a => Fin.ext (wholeBlock 10 t (origin t).2.2.2.2.2.2.2.2.1 j a))

/-- The scale, as one row. -/
theorem block2 (t : Fin cfg0.N) (k : Fin 1024) : (iblk m c 2 t : Vec Ideal S1x1024 .f32) (ix2 0 k) = vec (m ((c : Thread nD τ).loc main_arg1)) k := by
  unfold iblk
  rw [View.read_apply]
  show V m c main_call0_v4 _ = _
  entry_read
  refine Eq.trans (congrArg _ (funext fun a => Fin.ext (wholeBlock 2 t (origin t).1 (ix2 0 k) a))) ?_
  exact toRow_apply (m := 1024) (m ((c : Thread nD τ).loc main_arg1)) _ 0 k

/-- The shift, as one row. -/
theorem block3 (t : Fin cfg0.N) (k : Fin 1024) : (iblk m c 3 t : Vec Ideal S1x1024 .f32) (ix2 0 k) = vec (m ((c : Thread nD τ).loc main_arg2)) k := by
  unfold iblk
  rw [View.read_apply]
  show V m c main_call0_v5 _ = _
  entry_read
  refine Eq.trans (congrArg _ (funext fun a => Fin.ext (wholeBlock 3 t (origin t).2.1 (ix2 0 k) a))) ?_
  exact toRow_apply (m := 1024) (m ((c : Thread nD τ).loc main_arg2)) _ 0 k

/-- The perceptron's first bias, as one row. -/
theorem block9 (t : Fin cfg0.N) (k : Fin 2048) : (iblk m c 9 t : Vec Ideal S1x2048 .f32) (ix2 0 k) = vec (m ((c : Thread nD τ).loc main_arg8)) k := by
  unfold iblk
  rw [View.read_apply]
  show V m c main_call0_v6 _ = _
  entry_read
  refine Eq.trans (congrArg _ (funext fun a => Fin.ext (wholeBlock 9 t (origin t).2.2.2.2.2.2.2.1 (ix2 0 k) a))) ?_
  exact toRow_apply (m := 2048) (m ((c : Thread nD τ).loc main_arg8)) _ 0 k

/-- The perceptron's second bias, as one row. -/
theorem block11 (t : Fin cfg0.N) (k : Fin 1024) : (iblk m c 11 t : Vec Ideal S1x1024 .f32) (ix2 0 k) = vec (m ((c : Thread nD τ).loc main_arg10)) k := by
  unfold iblk
  rw [View.read_apply]
  show V m c main_call0_v7 _ = _
  entry_read
  refine Eq.trans (congrArg _ (funext fun a => Fin.ext (wholeBlock 11 t (origin t).2.2.2.2.2.2.2.2.2 (ix2 0 k) a))) ?_
  exact toRow_apply (m := 1024) (m ((c : Thread nD τ).loc main_arg10)) _ 0 k

/-! ## The result array -/

/-- The inputs that decide the attention weights are finite: the input, the scale and shift, the query and key matrices. -/
structure Finite : Prop where
  input : ∀ i, IsReal (m ((c : Thread nD τ).loc main_arg0) i)
  scale : ∀ i, IsReal (m ((c : Thread nD τ).loc main_arg1) i)
  shift : ∀ i, IsReal (m ((c : Thread nD τ).loc main_arg2) i)
  query : ∀ i, IsReal (m ((c : Thread nD τ).loc main_arg3) i)
  key : ∀ i, IsReal (m ((c : Thread nD τ).loc main_arg4) i)

/-- What a grid point computes, at an index of its block. -/
theorem out_eq (hf : Finite m c) (t : Fin cfg0.N) (n : Fin 4) (hn : n.val = (grid0.coords t 1).val) (z : Fin 2) (hz : z.val = (grid0.coords t 0).val)
    (y : S1x512x1024.Idx) :
    out0_12 (F := Ideal) (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) y
      = result m c (ix3 z (blockRow n (y 1)) (y 2)) := by
  have e2 : (fun k : Fin 1024 => (iblk m c 2 t : Vec Ideal S1x1024 .f32) (ix2 0 k)) = vec (m ((c : Thread nD τ).loc main_arg1)) := funext (block2 m c t)
  have e3 : (fun k : Fin 1024 => (iblk m c 3 t : Vec Ideal S1x1024 .f32) (ix2 0 k)) = vec (m ((c : Thread nD τ).loc main_arg2)) := funext (block3 m c t)
  have e9 : (fun k : Fin 2048 => (iblk m c 9 t : Vec Ideal S1x2048 .f32) (ix2 0 k)) = vec (m ((c : Thread nD τ).loc main_arg8)) := funext (block9 m c t)
  have e11 : (fun k : Fin 1024 => (iblk m c 11 t : Vec Ideal S1x1024 .f32) (ix2 0 k)) = vec (m ((c : Thread nD τ).loc main_arg10)) := funext (block11 m c t)
  have hy : y = ix3 (y 0) (y 1) (y 2) := eq_ix3 y
  rw [out_printed, hy]
  refine (addUnit_apply (n := 512) (m := 1024) _ _ (y 0) (y 1) (y 2)).trans ?_
  refine (outTile_eq (grid0.coords t) n _ _ _ _ _ _ _ _ _ _ _ _ (seq (m ((c : Thread nD τ).loc main_arg0)) z) (block0 m c t n hn z hz) (block1 m c t n hn z hz)
    hn (fun t k => hf.input _) (fun k => ?_) (fun k => ?_) (fun e k => ?_) (fun e k => ?_) (y 1) (y 2)).trans ?_
  · rw [block2]; exact hf.scale _
  · rw [block3]; exact hf.shift _
  · rw [block4]; exact hf.query _
  · rw [block5]; exact hf.key _
  · rw [e2, e3, e9, e11, block4, block5, block6, block7, block8, block10]
    rfl

/-- **Every grid point writes its block of the layer's result.** -/
theorem flushed_eq (hf : Finite m c) (t : Fin cfg0.N) :
    (dats m 0 c).flushed 12 t = ((cfg0.win 12).blk t).view.read (Elt Ideal) (result m c) := by
  rw [flushed12]
  obtain ⟨h0, h1, h2⟩ := place12 t
  funext y
  rw [View.read_apply]
  refine (out_eq m c hf t (grid0.coords t 1) rfl (grid0.coords t 0) rfl y).trans ?_
  show result m c _ = result m c _
  congr 1
  funext a
  apply Fin.ext
  match a with
  | ⟨0, _⟩ => show (grid0.coords t 0).val = win0_12.index t 0 * 1 + 1 * (y 0).val; have : (y 0).val < 1 := (y 0).isLt; omega
  | ⟨1, _⟩ => show 512 * (grid0.coords t 1).val + (y 1).val = win0_12.index t 1 * 512 + 1 * (y 1).val; omega
  | ⟨2, _⟩ => show (y 2).val = win0_12.index t 2 * 1024 + 1 * (y 2).val; omega

/-- Every pair of a sequence and a block number is a grid point. -/
theorem point : ∀ (z : Fin 2) (n : Fin 4), ∃ t : Fin grid0.N, (grid0.coords t 0).val = z.val ∧ (grid0.coords t 1).val = n.val := by
  decide +kernel

/-- The blocks cover the result array. -/
theorem cover (i : S2x2048x1024.Idx) : ∃ t : Fin cfg0.N, (cfg0.win 12).flush t = true ∧ i ∈ ((cfg0.win 12).blk t).view.set := by
  have hi1 : (i 1).val < 2048 := (i 1).isLt
  have hi2 : (i 2).val < 1024 := (i 2).isLt
  obtain ⟨t, h0, h1⟩ := point (i 0) ⟨(i 1).val / 512, by omega⟩
  obtain ⟨p0, p1, p2⟩ := place12 t
  refine ⟨t, flush0_12 t, ?_⟩
  show i ∈ ((View.whole main_v0).slice (win0_12.rect t)).set
  rw [View.set_slice_whole, Rect.mem_set_unit]
  intro a
  match a with
  | ⟨0, _⟩ => show win0_12.index t 0 * 1 ≤ (i 0).val ∧ (i 0).val < win0_12.index t 0 * 1 + 1; omega
  | ⟨1, _⟩ =>
    show win0_12.index t 1 * 512 ≤ (i 1).val ∧ (i 1).val < win0_12.index t 1 * 512 + 512
    rw [p1, h1]; show (i 1).val / 512 * 512 ≤ (i 1).val ∧ (i 1).val < (i 1).val / 512 * 512 + 512; omega
  | ⟨2, _⟩ => show win0_12.index t 2 * 1024 ≤ (i 2).val ∧ (i 2).val < win0_12.index t 2 * 1024 + 1024; omega

/-- **The result array ends holding the layer's result.** -/
theorem final_eq (hf : Finite m c) : (dats m 0 c).arrAt 12 cfg0.N = result m c :=
  (dats m 0 c).arrAt_eq_of_cover 12 (result m c) (fun t _ => flushed_eq m c hf t) cover

end Cert.KernelIdeal.Array

end
-- ==== Proof.RefNorm.lean ====
/- The reference's layer normalization, read at an entry: each stage of the printed program at row `t` of sequence `z`,
   up to the normalized row of Spec. -/
module

public import proofs.«01_k».proof.Proof.Result
public import proofs.«01_k».proof.Proof.Gen.ReferenceIdeal.Read

@[expose] public section

noncomputable section

open scoped BigOperators

namespace Cert.ReferenceIdeal.Layer

open Idealize.ShloMosaic Idealize.ShloMosaic.ValueIdx Cert.ReferenceIdeal Cert.ReferenceIdeal.Gen Cert.ReferenceIdeal.Read Cert.Layer

/-- An array of extended reals. -/
abbrev Arr (s : Shape) : Type := (⟨s, .f32⟩ : BufTy).Contents (Elt Ideal)

/-- Two indices of one axis with the same coordinate are equal. -/
theorem ext1 {a : ℕ} {i j : (⟨1, ![a]⟩ : Shape).Idx} (h0 : (i 0).val = (j 0).val) : i = j := by
  funext x
  match x with
  | ⟨0, _⟩ => exact Fin.ext h0

/-- Two indices of two axes with the same coordinates are equal. -/
theorem ext2 {a b : ℕ} {i j : (⟨2, ![a, b]⟩ : Shape).Idx} (h0 : (i 0).val = (j 0).val) (h1 : (i 1).val = (j 1).val) : i = j := by
  funext x
  match x with
  | ⟨0, _⟩ => exact Fin.ext h0
  | ⟨1, _⟩ => exact Fin.ext h1

/-- Two indices of three axes with the same coordinates are equal. -/
theorem ext3 {a b c : ℕ} {i j : (⟨3, ![a, b, c]⟩ : Shape).Idx} (h0 : (i 0).val = (j 0).val) (h1 : (i 1).val = (j 1).val)
    (h2 : (i 2).val = (j 2).val) : i = j := by
  funext x
  match x with
  | ⟨0, _⟩ => exact Fin.ext h0
  | ⟨1, _⟩ => exact Fin.ext h1
  | ⟨2, _⟩ => exact Fin.ext h2

/-- Two indices of four axes with the same coordinates are equal. -/
theorem ext4 {a b c d : ℕ} {i j : (⟨4, ![a, b, c, d]⟩ : Shape).Idx} (h0 : (i 0).val = (j 0).val) (h1 : (i 1).val = (j 1).val)
    (h2 : (i 2).val = (j 2).val) (h3 : (i 3).val = (j 3).val) : i = j := by
  funext x
  match x with
  | ⟨0, _⟩ => exact Fin.ext h0
  | ⟨1, _⟩ => exact Fin.ext h1
  | ⟨2, _⟩ => exact Fin.ext h2
  | ⟨3, _⟩ => exact Fin.ext h3

variable (x : Arr S2x2048x1024) (g b : Arr S1024) (z : Fin 2) (t : Fin 2048) (k : Fin 1024)

/-- The mean the reference subtracts. -/
theorem mean_apply : val_main_v3 (F := Ideal) x (ix3 z t 0) = mean (seq x z t) := by
  rw [val_main_v3_apply, val_main_v1_apply, val_main_v2_apply, val_main_v0_apply, val_main_cst_apply, val_main_cst_0_apply]
  show Ideal.div (Ideal.ofBits .f32 _ + _) (Ideal.ofBits .f32 _) = _
  rw [ofBits_zero, zero_add, ofBits_width]
  exact congrArg (fun s => Ideal.div s width) (Finset.sum_congr rfl fun k _ => congrArg x (ext3 rfl rfl rfl))

/-- The mean inside the reference's variance is the same mean. -/
theorem innerMean_apply : val_main_call0_v3 (F := Ideal) x (ix3 z t 0) = mean (seq x z t) := mean_apply x z t

/-- An entry less the mean, inside the variance. -/
theorem centred_apply : val_main_call0_v5 (F := Ideal) x (ix3 z t k) = seq x z t k - mean (seq x z t) := by
  rw [val_main_call0_v5_apply, val_main_call0_v4_apply]
  have e : idx_main_call0_v4 (ix3 z t k) = ix3 z t 0 := ext3 rfl rfl rfl
  rw [e, innerMean_apply]; rfl

/-- The divisor of the variance: the row length less a zero. -/
theorem count_apply (i : S_.Idx) : val_main_call0_v8 (F := Ideal) i = width := by
  rw [val_main_call0_v8_apply, val_main_call0_cst_1_apply, val_main_call0_v7_apply, val_main_c_apply]
  show Ideal.ofBits .f32 _ - (((0#32 : BitVec 32).toInt : ℝ) : EReal) = _
  rw [ofBits_width]; simp

/-- The quotient of the variance. -/
theorem spread_apply : val_main_call0_v12 (F := Ideal) x (ix3 z t 0) = variance (seq x z t) := by
  rw [val_main_call0_v12_apply, val_main_call0_v10_apply, val_main_call0_v11_apply, count_apply, val_main_call0_v9_apply,
    val_main_call0_cst_2_apply]
  show Ideal.div (Ideal.ofBits .f32 _ + _) width = _
  rw [ofBits_zero, zero_add]
  refine congrArg (fun s => Ideal.div s width) (Finset.sum_congr rfl fun k _ => ?_)
  have e : idx_main_call0_v9 (idx_main_call0_v10 (ix3 z t 0)) k = ix3 z t k := ext3 rfl rfl rfl
  rw [e, val_main_call0_v6_apply, centred_apply]; rfl

/-- The divisor is positive, so the reference's variance is that quotient. -/
theorem variance_apply : val_main_v4 (F := Ideal) x (ix3 z t 0) = variance (seq x z t) := by
  unfold val_main_v4
  rw [select_apply, broadcastInDim_apply _ bcast_S_S2x2048x1 _ _ (fun a => a.elim0) (fun a => a.elim0), val_main_call0_v13_apply,
    count_apply, val_main_call0_cst_3_apply]
  have h : (FloatOps.cmpf (F := Ideal) (φ := .f32) .ogt width (FloatOps.ofBits .f32 0x00000000#32)) = 1#1 := by
    show BitVec.ofBool (decide (Ideal.ofBits .f32 0x00000000#32 < width)) = 1#1
    rw [ofBits_zero, decide_eq_true]; · rfl
    unfold width; exact_mod_cast (by norm_num : (0 : ℝ) < 1024)
  rw [h, select_one, spread_apply]

/-- **The reference's normalized row.** -/
theorem norm_apply : val_main_v17 (F := Ideal) x g b (ix3 z t k) = norm (vec g) (vec b) (seq x z t) k := by
  rw [val_main_v17_apply, val_main_v14_apply, val_main_v11_apply, val_main_v6_apply, val_main_v5_apply, val_main_v10_apply,
    val_main_v9_apply, val_main_v8_apply, val_main_v7_apply, val_main_cst_1_apply, val_main_v13_apply, val_main_v12_apply,
    val_main_v16_apply, val_main_v15_apply]
  have e1 : idx_main_v5 (ix3 z t k) = ix3 z t 0 := ext3 rfl rfl rfl
  have e2 : idx_main_v10 (ix3 z t k) = ix3 z t 0 := ext3 rfl rfl rfl
  have e3 : idx_main_v12 (idx_main_v13 (ix3 z t k)) = ix1 k := ext1 rfl
  have e4 : idx_main_v15 (idx_main_v16 (ix3 z t k)) = ix1 k := ext1 rfl
  rw [e1, e2, e3, e4, mean_apply, variance_apply]
  rfl

end Cert.ReferenceIdeal.Layer

end
-- ==== Proof.RefAttend.lean ====
/- The reference's attention, read at an entry: the three projections split into heads, the scores outside the band at
   minus infinity, their softmax, the heads joined again, and the first residual addition. -/
module

public import proofs.«01_k».proof.Proof.RefNorm
public import Idealize.ShloMosaic.Lib.WordCmp

@[expose] public section

noncomputable section

open scoped BigOperators

namespace Cert.ReferenceIdeal.Layer

open Idealize.ShloMosaic Idealize.ShloMosaic.ValueIdx Cert.ReferenceIdeal Cert.ReferenceIdeal.Gen Cert.ReferenceIdeal.Read Cert.Layer

variable (x : Arr S2x2048x1024) (g b : Arr S1024) (w wq wk wv wo : Arr S1024x1024)

/-- The rows of one projection of one sequence. -/
def rows (z : Fin 2) (s : Fin 2048) : Fin 1024 → EReal := proj (mat w) (norm (vec g) (vec b) (seq x z s))

/-- A projection of the normalized rows. -/
theorem proj_apply (z : Fin 2) (t : Fin 2048) (e : Fin 1024) :
    val_main_v19 (F := Ideal) x g b w (ix3 z t e) = rows x g b w z t e := by
  rw [val_main_v19_apply]
  show _ = ∑ k : Fin 1024, norm (vec g) (vec b) (seq x z t) k * mat w e k
  refine Finset.sum_congr rfl fun k _ => ?_
  have e1 : lidx_main_v19 (ix3 z t e) k = ix3 z t k := ext3 rfl rfl rfl
  have e2 : idx_main_v18 (ridx_main_v19 (ix3 z t e) k) = ix2 e k := ext2 rfl rfl
  rw [e1, norm_apply, val_main_v18_apply, e2]; rfl

/-- The projection split into heads. -/
theorem head_apply (z : Fin 2) (h : Fin 16) (t : Fin 2048) (d : Fin 64) :
    val_main_v21 (F := Ideal) x g b w (ix4 z h t d) = rows x g b w z t (hcol h d) := by
  rw [val_main_v21_apply, val_main_v20_apply, ← proj_apply]
  have hz := z.isLt; have hh := h.isLt; have ht := t.isLt; have hd := d.isLt
  refine congrArg _ (ext3 ?_ ?_ ?_)
  · show (((z.val * 2048 + t.val) * 16 + h.val) * 64 + d.val) / 2097152 = z.val; omega
  · show (((z.val * 2048 + t.val) * 16 + h.val) * 64 + d.val) / 1024 % 2048 = t.val; omega
  · show (((z.val * 2048 + t.val) * 16 + h.val) * 64 + d.val) % 1024 = 64 * h.val + d.val; omega

/-- The keys are projected and split as the queries are. -/
theorem key_apply (z : Fin 2) (h : Fin 16) (t : Fin 2048) (d : Fin 64) :
    val_main_v25 (F := Ideal) x g b wk (ix4 z h t d) = rows x g b wk z t (hcol h d) := head_apply x g b wk z h t d

/-- So are the values. -/
theorem value_apply (z : Fin 2) (h : Fin 16) (t : Fin 2048) (d : Fin 64) :
    val_main_v29 (F := Ideal) x g b wv (ix4 z h t d) = rows x g b wv z t (hcol h d) := head_apply x g b wv z h t d

/-- The scaled scores. -/
theorem score_apply (z : Fin 2) (h : Fin 16) (t p : Fin 2048) :
    val_main_v32 (F := Ideal) x g b wq wk (ix4 z h t p) = score (rows x g b wq z) (rows x g b wk z) h t p := by
  rw [val_main_v32_apply, val_main_v30_apply, val_main_v31_apply, val_main_cst_2_apply]
  show _ * Ideal.ofBits .f32 _ = _
  rw [ofBits_eighth]
  refine congrArg (· * _) (Finset.sum_congr rfl fun d _ => ?_)
  have e1 : lidx_main_v30 (ix4 z h t p) d = ix4 z h t d := ext4 rfl rfl rfl rfl
  have e2 : ridx_main_v30 (ix4 z h t p) d = ix4 z h p d := ext4 rfl rfl rfl rfl
  rw [e1, e2, head_apply, key_apply]

/-- A number under 2048 as a 32-bit word, read back with its sign. -/
theorem word_toInt {n : ℕ} (hn : n < 2048) : (BitVec.ofNat 32 n).toInt = (n : ℤ) := by
  rw [BitVec.toInt_ofNat', Int.bmod_eq_of_le (by omega) (by omega)]

/-- The difference of two such words. -/
theorem word_sub_toInt {n m : ℕ} (hn : n < 2048) (hm : m < 2048) :
    (BitVec.ofNat 32 n - BitVec.ofNat 32 m).toInt = (n : ℤ) - m := by
  rw [BitVec.toInt_sub, word_toInt hn, word_toInt hm, Int.bmod_eq_of_le (by omega) (by omega)]

/-- The reference's mask is the band. -/
theorem band_apply (t p : Fin 2048) :
    val_main_v39 (F := Ideal) (ix2 t p) = BitVec.ofBool (decide (InBand t p)) := by
  rw [val_main_v39_apply, val_main_v35_apply, val_main_v38_apply, val_main_v36_apply, val_main_v37_apply, val_main_c_3_apply,
    val_main_v33_apply, val_main_v34_apply]
  show IntOp.andi (IntOp.cmpi .sle (BitVec.ofNat 32 p.val) (BitVec.ofNat 32 t.val))
    (IntOp.cmpi .slt (BitVec.ofNat 32 t.val - BitVec.ofNat 32 p.val) 256#32) = _
  rw [WordCmp.cmpi_sle_eq, WordCmp.cmpi_slt_eq, word_toInt p.isLt, word_toInt t.isLt, word_sub_toInt t.isLt p.isLt]
  have h256 : (256#32 : BitVec 32).toInt = 256 := by decide
  rw [h256]
  by_cases h1 : p.val ≤ t.val
  · by_cases h2 : t.val < p.val + 256
    · rw [decide_eq_true (by omega), decide_eq_true (by omega), decide_eq_true (show InBand t p from ⟨h1, h2⟩)]; rfl
    · rw [decide_eq_true (by omega), decide_eq_false (by omega), decide_eq_false (fun h : InBand t p => h2 h.2)]; rfl
  · rw [decide_eq_false (by omega : ¬ (p.val : ℤ) ≤ t.val), decide_eq_false (fun h : InBand t p => h1 h.1)]
    cases decide ((t.val : ℤ) - p.val < 256) <;> rfl

/-- The scores the softmax is taken of. -/
theorem banded_apply (z : Fin 2) (h : Fin 16) (t p : Fin 2048) :
    val_main_v41 (F := Ideal) x g b wq wk (ix4 z h t p) = banded (rows x g b wq z) (rows x g b wk z) h t p := by
  unfold val_main_v41
  have e1 : idx_main_v40 (idx_main_call1_v1 (ix4 z h t p)) = ix2 t p := ext2 rfl rfl
  rw [select_apply, val_main_call1_v1_apply, val_main_v40_apply, e1, band_apply, score_apply, val_main_call1_v2_apply,
    val_main_call1_v0_apply, val_main_cst_4_apply]
  show Scalar.select _ _ (Ideal.ofBits .f32 _) = _
  rw [ofBits_bot]
  unfold banded
  by_cases hb : InBand t p
  · rw [if_pos hb, decide_eq_true hb]; rfl
  · rw [if_neg hb, decide_eq_false hb]; rfl

/-- A maximum over the last of four axes, from minus infinity. -/
theorem max_apply (y : Arr S2x16x2048x2048) (z : Fin 2) (h : Fin 16) (t : Fin 2048) :
    Host.reduce (FloatOps.maximumf (F := Ideal) (φ := .f32)) y (val_main_cst_5 (F := Ideal))
      reducesTo_S2x16x2048x2048_S2x16x2048_d3 h_S_ (ix3 z h t) = top fun p => y (ix4 z h t p) := by
  rw [Host.reduce_eq_fold_single _ _ _ reducesTo_S2x16x2048x2048_S2x16x2048_d3 (by decide) h_S_, val_main_cst_5_apply]
  show Finset.fold max (Ideal.ofBits .f32 0xFF800000#32) _ _ = _
  rw [ofBits_bot]
  show Finset.fold max ⊥ _ _ = Finset.fold max ⊥ _ _
  refine congrArg (fun f => Finset.fold max ⊥ f Finset.univ) ?_
  funext p
  refine congrArg y ?_
  funext a
  match a with
  | ⟨0, _⟩ => rfl
  | ⟨1, _⟩ => rfl
  | ⟨2, _⟩ => rfl
  | ⟨3, _⟩ => rfl

/-- The largest score of a row. -/
theorem top_apply (z : Fin 2) (h : Fin 16) (t : Fin 2048) :
    val_main_v44 (F := Ideal) x g b wq wk (ix3 z h t) = top (banded (rows x g b wq z) (rows x g b wk z) h t) := by
  rw [val_main_v44_apply, val_main_v43_apply, val_main_cst_6_apply]
  show max (Ideal.ofBits .f32 _) _ = _
  rw [ofBits_bot, max_bot_left]
  unfold val_main_v42
  rw [max_apply]
  exact congrArg top (funext fun p => banded_apply x g b wq wk z h t p)

/-- The exponential of a score less the largest of its row. -/
theorem exp_apply (z : Fin 2) (h : Fin 16) (t p : Fin 2048) :
    val_main_v48 (F := Ideal) x g b wq wk (ix4 z h t p) =
      Ideal.exp (banded (rows x g b wq z) (rows x g b wk z) h t p - top (banded (rows x g b wq z) (rows x g b wk z) h t)) := by
  have e1 : idx_main_v45 (idx_main_v46 (ix4 z h t p)) = ix3 z h t := ext3 rfl rfl rfl
  rw [val_main_v48_apply, val_main_v47_apply, banded_apply, val_main_v46_apply, val_main_v45_apply, e1, top_apply]
  rfl

/-- The softmax. -/
theorem softmax_apply (z : Fin 2) (h : Fin 16) (t p : Fin 2048) :
    val_main_v52 (F := Ideal) x g b wq wk (ix4 z h t p) = softmax (banded (rows x g b wq z) (rows x g b wk z) h t) p := by
  have e1 : idx_main_v50 (idx_main_v51 (ix4 z h t p)) = ix3 z h t := ext3 rfl rfl rfl
  rw [val_main_v52_apply, exp_apply, val_main_v51_apply, val_main_v50_apply, e1, val_main_v49_apply, val_main_cst_7_apply]
  show Ideal.div _ (Ideal.ofBits .f32 _ + _) = _
  rw [ofBits_zero, zero_add]
  refine congrArg (Ideal.div _) (Finset.sum_congr rfl fun s _ => ?_)
  have e2 : idx_main_v49 (ix3 z h t) s = ix4 z h t s := ext4 rfl rfl rfl rfl
  rw [e2, exp_apply]

/-- The heads' results joined. -/
theorem attend_apply (z : Fin 2) (t : Fin 2048) (e : Fin 1024) :
    val_main_v55 (F := Ideal) x g b wq wk wv (ix3 z t e) = attend (rows x g b wq z) (rows x g b wk z) (rows x g b wv z) t e := by
  have hz := z.isLt; have ht := t.isLt; have he := e.isLt
  have e1 : idx_main_v54 (idx_main_v55 (ix3 z t e)) = ix4 z (headOf e) t (laneOf e) := by
    refine ext4 ?_ ?_ ?_ ?_
    · show ((z.val * 2048 + t.val) * 1024 + e.val) / 2097152 = z.val; omega
    · show ((z.val * 2048 + t.val) * 1024 + e.val) / 64 % 16 = e.val / 64; omega
    · show ((z.val * 2048 + t.val) * 1024 + e.val) / 1024 % 2048 = t.val; omega
    · show ((z.val * 2048 + t.val) * 1024 + e.val) % 64 = e.val % 64; omega
  rw [val_main_v55_apply, val_main_v54_apply, e1, val_main_v53_apply]
  refine Finset.sum_congr rfl fun p _ => ?_
  have e2 : lidx_main_v53 (ix4 z (headOf e) t (laneOf e)) p = ix4 z (headOf e) t p := ext4 rfl rfl rfl rfl
  have e3 : ridx_main_v53 (ix4 z (headOf e) t (laneOf e)) p = ix4 z (headOf e) p (laneOf e) := ext4 rfl rfl rfl rfl
  have e4 : hcol (headOf e) (laneOf e) = e := Fin.ext (by show 64 * (e.val / 64) + e.val % 64 = e.val; omega)
  rw [e2, e3, softmax_apply, value_apply, e4]

/-- **The reference after the first residual addition.** -/
theorem mid_apply (z : Fin 2) (t : Fin 2048) (j : Fin 1024) :
    val_main_v58 (F := Ideal) x g b wq wk wv wo (ix3 z t j) =
      mid (vec g) (vec b) (mat wq) (mat wk) (mat wv) (mat wo) (seq x z) t j := by
  rw [val_main_v58_apply, val_main_v57_apply]
  refine congrArg (· + seq x z t j) (Finset.sum_congr rfl fun k _ => ?_)
  have e1 : lidx_main_v57 (ix3 z t j) k = ix3 z t k := ext3 rfl rfl rfl
  have e2 : idx_main_v56 (ridx_main_v57 (ix3 z t j) k) = ix2 j k := ext2 rfl rfl
  rw [e1, attend_apply, val_main_v56_apply, e2]; rfl

end Cert.ReferenceIdeal.Layer

end
-- ==== Proof.RefLayer.lean ====
/- The reference's perceptron, read at an entry, and the whole reference: its result array is the layer's. -/
module

public import proofs.«01_k».proof.Proof.RefAttend

@[expose] public section

noncomputable section

open scoped BigOperators

namespace Cert.ReferenceIdeal.Layer

open Idealize.ShloMosaic Idealize.ShloMosaic.ValueIdx Cert.ReferenceIdeal Cert.ReferenceIdeal.Gen Cert.ReferenceIdeal.Read Cert.Layer

variable (x : Arr S2x2048x1024) (g b : Arr S1024) (wq wk wv wo : Arr S1024x1024)
  (w1 : Arr S2048x1024) (b1 : Arr S2048) (w2 : Arr S1024x2048) (b2 : Arr S1024)

/-- Row `t` of sequence `z` after the first residual addition. -/
def midRow (z : Fin 2) (t : Fin 2048) : Fin 1024 → EReal :=
  mid (vec g) (vec b) (mat wq) (mat wk) (mat wv) (mat wo) (seq x z) t

/-- The second normalization is the first one, of the rows after the first residual addition. -/
theorem second_norm : val_main_v76 (F := Ideal) x g b wq wk wv wo
    = val_main_v17 (F := Ideal) (val_main_v58 (F := Ideal) x g b wq wk wv wo) g b := rfl

/-- The second normalized row. -/
theorem second_norm_apply (z : Fin 2) (t : Fin 2048) (k : Fin 1024) :
    val_main_v76 (F := Ideal) x g b wq wk wv wo (ix3 z t k) = norm (vec g) (vec b) (midRow x g b wq wk wv wo z t) k := by
  rw [second_norm, norm_apply]
  have e : seq (val_main_v58 (F := Ideal) x g b wq wk wv wo) z t = midRow x g b wq wk wv wo z t :=
    funext fun j => mid_apply x g b wq wk wv wo z t j
  rw [e]

/-- What the gelu is taken of. -/
theorem hidden_apply (z : Fin 2) (t f : Fin 2048) :
    val_main_v81 (F := Ideal) x g b wq wk wv wo w1 b1 (ix3 z t f) =
      proj (mat w1) (norm (vec g) (vec b) (midRow x g b wq wk wv wo z t)) f + vec b1 f := by
  have e1 : idx_main_v79 (idx_main_v80 (ix3 z t f)) = ix1 f := ext1 rfl
  rw [val_main_v81_apply, val_main_v78_apply, val_main_v80_apply, val_main_v79_apply, e1]
  refine congrArg (· + vec b1 f) (Finset.sum_congr rfl fun k _ => ?_)
  have e2 : lidx_main_v78 (ix3 z t f) k = ix3 z t k := ext3 rfl rfl rfl
  have e3 : idx_main_v77 (ridx_main_v78 (ix3 z t f) k) = ix2 f k := ext2 rfl rfl
  rw [e2, second_norm_apply, val_main_v77_apply, e3]; rfl

/-- The gelu. -/
theorem gelu_apply (z : Fin 2) (t f : Fin 2048) :
    val_main_v90 (F := Ideal) x g b wq wk wv wo w1 b1 (ix3 z t f) =
      gelu (proj (mat w1) (norm (vec g) (vec b) (midRow x g b wq wk wv wo z t)) f + vec b1 f) := by
  rw [val_main_v90_apply, val_main_v83_apply, val_main_v82_apply, val_main_cst_12_apply, val_main_v89_apply, val_main_v88_apply,
    val_main_v84_apply, val_main_v87_apply, val_main_v86_apply, val_main_v85_apply, val_main_cst_13_apply, hidden_apply]
  rfl

/-- The reference's result at an entry. -/
theorem out_apply (z : Fin 2) (t : Fin 2048) (j : Fin 1024) :
    val_main_v96 (F := Ideal) x g b wq wk wv wo w1 b1 w2 b2 (ix3 z t j) =
      mlp (vec g) (vec b) (mat w1) (vec b1) (mat w2) (vec b2) (midRow x g b wq wk wv wo z t) j := by
  have e1 : idx_main_v93 (idx_main_v94 (ix3 z t j)) = ix1 j := ext1 rfl
  rw [val_main_v96_apply, val_main_v95_apply, val_main_v92_apply, val_main_v94_apply, val_main_v93_apply, e1, mid_apply]
  refine congrArg (· + vec b2 j + midRow x g b wq wk wv wo z t j) (Finset.sum_congr rfl fun f _ => ?_)
  have e2 : lidx_main_v92 (ix3 z t j) f = ix3 z t f := ext3 rfl rfl rfl
  have e3 : idx_main_v91 (ridx_main_v92 (ix3 z t j) f) = ix2 j f := ext2 rfl rfl
  rw [e2, gelu_apply, val_main_v91_apply, e3]; rfl

/-- **The reference computes the layer.** -/
theorem out_eq : val_main_v96 (F := Ideal) x g b wq wk wv wo w1 b1 w2 b2 = layerOut x g b wq wk wv wo w1 b1 w2 b2 := by
  funext i
  have e : i = ix3 (i 0) (i 1) (i 2) := ext3 rfl rfl rfl
  rw [e]
  exact out_apply x g b wq wk wv wo w1 b1 w2 b2 (i 0) (i 1) (i 2)

end Cert.ReferenceIdeal.Layer

end
-- ==== Proof.Precondition.lean ====
/- What the precondition says: it holds exactly when every entry of the five arrays it looks at lies strictly between
   the infinities, so those entries are reals. -/
module

public import proofs.«01_k».proof.Pre_finite_scores
public import proofs.«01_k».proof.Proof.Spec

@[expose] public section

noncomputable section

namespace Cert.Pre_finite_scores.Layer

open Idealize.ShloMosaic Cert.Pre_finite_scores Cert.Layer

/-- The shape relations of the precondition: a number stretches to an array. -/
theorem facts : Cert.Pre_finite_scores.Facts where
  bcast_S_S2x2048x1024 := by decide
  bcast_S_S1024 := by decide
  bcast_S_S1024x1024 := by decide

/-- Two truth values whose conjunction is true are true. -/
theorem both_of_and {a b : Bool} (h : IntOp.andi (BitVec.ofBool a) (BitVec.ofBool b) = 1#1) : a = true ∧ b = true := by
  revert h; cases a <;> cases b <;> decide

/-- An entry strictly between the infinities, as the precondition tests it. -/
theorem real_of_test {x : EReal}
    (h : IntOp.andi (FloatOps.cmpf (F := Ideal) (φ := .f32) .ogt x (FloatOps.ofBits .f32 0xFF800000#32))
      (FloatOps.cmpf (F := Ideal) (φ := .f32) .olt x (FloatOps.ofBits .f32 0x7F800000#32)) = 1#1) : IsReal x := by
  have h' : IntOp.andi (BitVec.ofBool (decide (Ideal.ofBits .f32 0xFF800000#32 < x)))
      (BitVec.ofBool (decide (x < Ideal.ofBits .f32 0x7F800000#32))) = 1#1 := h
  rw [ofBits_bot, ofBits_top] at h'
  obtain ⟨h1, h2⟩ := both_of_and h'
  exact fin_of_lt (of_decide_eq_true h1) (of_decide_eq_true h2)

/-- An array passing the precondition's test is real at every entry. -/
theorem real_of_array {s : Shape} (hb : S_.BroadcastsInDim s (![] : Fin 0 → Fin s.rank)) (x : FVec Ideal s .f32)
    (h : andi (cmpf .ogt x (broadcastInDim s ![] hb (constant (F := Ideal) S_ .f32 0xFF800000#32)))
      (cmpf .olt x (broadcastInDim s ![] hb (constant (F := Ideal) S_ .f32 0x7F800000#32))) = fun _ => 1#1) (i : s.Idx) : IsReal (x i) :=
  real_of_test (congrFun h i)

end Cert.Pre_finite_scores.Layer

end
-- ==== Proof.lean ====
/- The claims, assembled: the frames, the three named constants, and the equation of the kernel's result array with the
   reference's — both are the layer of Proof/Result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.RefLayer
public import proofs.«01_k».proof.Proof.Precondition
public import Idealize.ShloMosaic.Adequacy
public import Idealize.ShloMosaic.Init

@[expose] public section

noncomputable section

namespace Cert.Proof

open Idealize.ShloMosaic Idealize.SL.Sem Cert.Layer

/-- The reference, from any memory, terminates with every counter at zero and its arguments as they were. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The precondition gives the finiteness the equation needs. -/
theorem finite_of_pre (m : (ℓ : Loc Cert.KernelIdeal.nD Cert.KernelIdeal.τ Cert.KernelIdeal.sig) → Buf (Elt Ideal) ℓ)
    (h : Cert.Pre_KernelIdeal_finite_scores (hPre_finite_scores := Cert.Pre_finite_scores.Layer.facts) m)
    (c : Dev Cert.KernelIdeal.nD) : Cert.KernelIdeal.Array.Finite m c where
  input := Cert.Pre_finite_scores.Layer.real_of_array _ _ (h c).1
  scale := Cert.Pre_finite_scores.Layer.real_of_array _ _ (h c).2.1
  shift := Cert.Pre_finite_scores.Layer.real_of_array _ _ (h c).2.2.1
  query := Cert.Pre_finite_scores.Layer.real_of_array _ _ (h c).2.2.2.1
  key := Cert.Pre_finite_scores.Layer.real_of_array _ _ (h c).2.2.2.2

/-- The three named constants stand where the kernel has their literals. -/
theorem constants : Cert.preserves_Kernel_KernelIdeal :=
  ⟨IdealRules.named_const.statement Cert.KernelIdeal.κ "scale_log2e" .f32 0x3E38AA3B#32 (((Real.log 2)⁻¹ * (1 / 8) : ℝ) : EReal) rfl,
    IdealRules.named_const.statement Cert.KernelIdeal.κ "mask" .f32 0xF149F2CA#32 ⊥ rfl,
    IdealRules.named_const.statement Cert.KernelIdeal.κ "inv_sqrt2" .f32 0x3F3504F3#32 (((Real.sqrt 2)⁻¹ : ℝ) : EReal) rfl⟩

/-- **The kernel's result array is the reference's**, under the precondition: each is the layer of the arguments. -/
theorem equation : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Layer.facts) := by
  intro m ρ m' ρ' hpre hargs
  refine ⟨fun c => Cert.KernelIdeal.Array.result m c, ?_, ?_⟩
  · exact (θ_run Cert.KernelIdeal.defs _ _).mono
      (fun _ h c => ⟨(h c).1.trans (Cert.KernelIdeal.Array.final_eq m c (finite_of_pre m hpre c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v96_eq (F := Ideal) (StableHlo.launchContents m' c)).trans ?_
    refine (Cert.ReferenceIdeal.Layer.out_eq _ _ _ _ _ _ _ _ _ _ _).trans ?_
    obtain ⟨h0, h1, h2, h3, h4, h5, h6, h7, h8, h9, h10⟩ := hargs c
    show _ = Cert.KernelIdeal.Array.result m c
    unfold Cert.KernelIdeal.Array.result
    rw [← h0, ← h1, ← h2, ← h3, ← h4, ← h5, ← h6, ← h7, ← h8, ← h9, ← h10]

/-- Everything claimed. -/
theorem claim : Cert.Claim := ⟨Cert.Kernel.Gen.facts, Cert.KernelIdeal.Gen.facts, Cert.ReferenceIdeal.Gen.facts,
  Cert.Pre_finite_scores.Layer.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, constants, equation⟩

end Cert.Proof

end
